-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S128x2048 : Shape := ⟨2, ![128, 2048]⟩
abbrev S3x4x128x2048 : Shape := ⟨4, ![3, 4, 128, 2048]⟩
abbrev S4x4x128x2048 : Shape := ⟨4, ![4, 4, 128, 2048]⟩
abbrev S3x128x2048 : Shape := ⟨3, ![3, 128, 2048]⟩
abbrev S4x128x2048 : Shape := ⟨3, ![4, 128, 2048]⟩
abbrev S3x4 : Shape := ⟨2, ![3, 4]⟩
abbrev S4x4 : Shape := ⟨2, ![4, 4]⟩
abbrev S3 : Shape := ⟨1, ![3]⟩
abbrev S4 : Shape := ⟨1, ![4]⟩
abbrev S_ : Shape := ⟨0, ![]⟩
abbrev S128x1024 : Shape := ⟨2, ![128, 1024]⟩
abbrev S1x1x128x2048 : Shape := ⟨4, ![1, 1, 128, 2048]⟩
abbrev S1x1 : Shape := ⟨2, ![1, 1]⟩
abbrev S1x4x128x2048 : Shape := ⟨4, ![1, 4, 128, 2048]⟩
abbrev S1x128x2048 : Shape := ⟨3, ![1, 128, 2048]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S128x2048, .f32⟩
  | .local _ .vmem, ⟨0, _⟩ => ⟨S2048x1024, .f32⟩
  | .local _ .vmem, ⟨1, _⟩ => ⟨S1024x2048, .f32⟩
  | .local _ .vmem, ⟨2, _⟩ => ⟨S128x2048, .f32⟩
  | .local _ .vmem, ⟨3, _⟩ => ⟨S3x4x128x2048, .bf16⟩
  | .local _ .vmem, ⟨4, _⟩ => ⟨S4x4x128x2048, .bf16⟩
  | .local _ .vmem, ⟨5, _⟩ => ⟨S3x128x2048, .bf16⟩
  | .local _ .vmem, ⟨6, _⟩ => ⟨S4x128x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v31 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v32 : BitVec 32 := Scalar.addi v29 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_58 : BitVec 32 := 1#32
  let v109 : BitVec 32 := Scalar.muli v43 c1_i32_58
  let v110 : BitVec 32 := Scalar.addi c0_i32_59 v109
  v110.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v44 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v45 : BitVec 32 := Scalar.addi v29 c2_i32
  let c4_i32_20 : BitVec 32 := 4#32
  let c0_i32_21 : BitVec 32 := 0#32
  let v46 : BitVec 1 := Scalar.cmpi .eq c4_i32_20 c0_i32_21
  let c1_i32_22 : BitVec 32 := 1#32
  let v47 : BitVec 32 := Scalar.select v46 c1_i32_22 c4_i32_20
  let v48 : BitVec 32 := Scalar.remsi v45 v47
  let c0_i32_24 : BitVec 32 := 0#32
  let v50 : BitVec 1 := Scalar.cmpi .slt v48 c0_i32_24
  let c0_i32_25 : BitVec 32 := 0#32
  let v51 : BitVec 1 := Scalar.cmpi .slt v47 c0_i32_25
  let v52 : BitVec 1 := Scalar.xori v50 v51
  let c0_i32_23 : BitVec 32 := 0#32
  let v49 : BitVec 1 := Scalar.cmpi .ne v48 c0_i32_23
  let v53 : BitVec 1 := Scalar.andi v52 v49
  let v54 : BitVec 32 := Scalar.addi v48 v47
  let v55 : BitVec 32 := Scalar.select v53 v54 v48
  let v56 : BitVec 32 := Scalar.addi v44 v55
  let c1_i32_61 : BitVec 32 := 1#32
  let v111 : BitVec 32 := Scalar.muli v56 c1_i32_61
  let v112 : BitVec 32 := Scalar.addi c0_i32_62 v111
  v112.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_26 : BitVec 32 := 4#32
  let v57 : BitVec 32 := Scalar.muli v19 c4_i32_26
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v58 : BitVec 32 := Scalar.addi v29 c3_i32
  let c4_i32_27 : BitVec 32 := 4#32
  let c0_i32_28 : BitVec 32 := 0#32
  let v59 : BitVec 1 := Scalar.cmpi .eq c4_i32_27 c0_i32_28
  let c1_i32_29 : BitVec 32 := 1#32
  let v60 : BitVec 32 := Scalar.select v59 c1_i32_29 c4_i32_27
  let v61 : BitVec 32 := Scalar.remsi v58 v60
  let c0_i32_31 : BitVec 32 := 0#32
  let v63 : BitVec 1 := Scalar.cmpi .slt v61 c0_i32_31
  let c0_i32_32 : BitVec 32 := 0#32
  let v64 : BitVec 1 := Scalar.cmpi .slt v60 c0_i32_32
  let v65 : BitVec 1 := Scalar.xori v63 v64
  let c0_i32_30 : BitVec 32 := 0#32
  let v62 : BitVec 1 := Scalar.cmpi .ne v61 c0_i32_30
  let v66 : BitVec 1 := Scalar.andi v65 v62
  let v67 : BitVec 32 := Scalar.addi v61 v60
  let v68 : BitVec 32 := Scalar.select v66 v67 v61
  let v69 : BitVec 32 := Scalar.addi v57 v68
  let c1_i32_64 : BitVec 32 := 1#32
  let v113 : BitVec 32 := Scalar.muli v69 c1_i32_64
  let v114 : BitVec 32 := Scalar.addi c0_i32_65 v113
  v114.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_33 : BitVec 32 := 1#32
  let v70 : BitVec 32 := Scalar.addi v19 c1_i32_33
  let c4_i32_34 : BitVec 32 := 4#32
  let c0_i32_35 : BitVec 32 := 0#32
  let v71 : BitVec 1 := Scalar.cmpi .eq c4_i32_34 c0_i32_35
  let c1_i32_36 : BitVec 32 := 1#32
  let v72 : BitVec 32 := Scalar.select v71 c1_i32_36 c4_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_40 : BitVec 32 := 4#32
  let v81 : BitVec 32 := Scalar.muli v80 c4_i32_40
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v82 : BitVec 32 := Scalar.addi v81 v29
  let c1_i32_67 : BitVec 32 := 1#32
  let v115 : BitVec 32 := Scalar.muli v82 c1_i32_67
  let v116 : BitVec 32 := Scalar.addi c0_i32_68 v115
  v116.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_41 : BitVec 32 := 2#32
  let v83 : BitVec 32 := Scalar.addi v19 c2_i32_41
  let c4_i32_42 : BitVec 32 := 4#32
  let c0_i32_43 : BitVec 32 := 0#32
  let v84 : BitVec 1 := Scalar.cmpi .eq c4_i32_42 c0_i32_43
  let c1_i32_44 : BitVec 32 := 1#32
  let v85 : BitVec 32 := Scalar.select v84 c1_i32_44 c4_i32_42
  let v86 : BitVec 32 := Scalar.remsi v83 v85
  let c0_i32_46 : BitVec 32 := 0#32
  let v88 : BitVec 1 := Scalar.cmpi .slt v86 c0_i32_46
  let c0_i32_47 : BitVec 32 := 0#32
  let v89 : BitVec 1 := Scalar.cmpi .slt v85 c0_i32_47
  let v90 : BitVec 1 := Scalar.xori v88 v89
  let c0_i32_45 : BitVec 32 := 0#32
  let v87 : BitVec 1 := Scalar.cmpi .ne v86 c0_i32_45
  let v91 : BitVec 1 := Scalar.andi v90 v87
  let v92 : BitVec 32 := Scalar.addi v86 v85
  let v93 : BitVec 32 := Scalar.select v91 v92 v86
  let c4_i32_48 : BitVec 32 := 4#32
  let v94 : BitVec 32 := Scalar.muli v93 c4_i32_48
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_70 : BitVec 32 := 1#32
  let v117 : BitVec 32 := Scalar.muli v95 c1_i32_70
  let v118 : BitVec 32 := Scalar.addi c0_i32_71 v117
  v118.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_49 : BitVec 32 := 3#32
  let v96 : BitVec 32 := Scalar.addi v19 c3_i32_49
  let c4_i32_50 : BitVec 32 := 4#32
  let c0_i32_51 : BitVec 32 := 0#32
  let v97 : BitVec 1 := Scalar.cmpi .eq c4_i32_50 c0_i32_51
  let c1_i32_52 : BitVec 32 := 1#32
  let v98 : BitVec 32 := Scalar.select v97 c1_i32_52 c4_i32_50
  let v99 : BitVec 32 := Scalar.remsi v96 v98
  let c0_i32_54 : BitVec 32 := 0#32
  let v101 : BitVec 1 := Scalar.cmpi .slt v99 c0_i32_54
  let c0_i32_55 : BitVec 32 := 0#32
  let v102 : BitVec 1 := Scalar.cmpi .slt v98 c0_i32_55
  let v103 : BitVec 1 := Scalar.xori v101 v102
  let c0_i32_53 : BitVec 32 := 0#32
  let v100 : BitVec 1 := Scalar.cmpi .ne v99 c0_i32_53
  let v104 : BitVec 1 := Scalar.andi v103 v100
  let v105 : BitVec 32 := Scalar.addi v99 v98
  let v106 : BitVec 32 := Scalar.select v104 v105 v99
  let c4_i32_56 : BitVec 32 := 4#32
  let v107 : BitVec 32 := Scalar.muli v106 c4_i32_56
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_73 : BitVec 32 := 1#32
  let v119 : BitVec 32 := Scalar.muli v108 c1_i32_73
  let v120 : BitVec 32 := Scalar.addi c0_i32_74 v119
  v120.toNat
def k0_off1 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_75 : BitVec 32 := 1#32
  let v121 : BitVec 32 := Scalar.addi v19 c1_i32_75
  let v122 : BitVec 32 := Scalar.addi v121 c0_i32_76
  let c4_i32_77 : BitVec 32 := 4#32
  let c0_i32_78 : BitVec 32 := 0#32
  let v123 : BitVec 1 := Scalar.cmpi .eq c4_i32_77 c0_i32_78
  let c1_i32_79 : BitVec 32 := 1#32
  let v124 : BitVec 32 := Scalar.select v123 c1_i32_79 c4_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let c4_i32_83 : BitVec 32 := 4#32
  let v133 : BitVec 32 := Scalar.muli v132 c4_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v134 : BitVec 32 := Scalar.addi v133 v29
  let c128_i32 : BitVec 32 := 128#32
  let v135 : BitVec 32 := Scalar.muli v134 c128_i32
  let v136 : Index := Scalar.indexCast v135
  let c0 : Index := 0#32
  ![v136.toNat, 0]
def k0_off2 (d0 : Dev nD) (c0_i32_76 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_75 : BitVec 32 := 1#32
  let v121 : BitVec 32 := Scalar.addi v19 c1_i32_75
  let v122 : BitVec 32 := Scalar.addi v121 c0_i32_76
  let c4_i32_77 : BitVec 32 := 4#32
  let c0_i32_78 : BitVec 32 := 0#32
  let v123 : BitVec 1 := Scalar.cmpi .eq c4_i32_77 c0_i32_78
  let c1_i32_79 : BitVec 32 := 1#32
  let v124 : BitVec 32 := Scalar.select v123 c1_i32_79 c4_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let v143 : Index := Scalar.indexCast v132
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v144 : Index := Scalar.indexCast v29
  let c0_86 : Index := 0#32
  let c0_87 : Index := 0#32
  ![v143.toNat, v144.toNat, 0, 0]
def k0_off3 (d0 : Dev nD) (c0_i32_76 : BitVec 32) (c0_i32_89 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_75 : BitVec 32 := 1#32
  let v121 : BitVec 32 := Scalar.addi v19 c1_i32_75
  let v122 : BitVec 32 := Scalar.addi v121 c0_i32_76
  let c4_i32_77 : BitVec 32 := 4#32
  let c0_i32_78 : BitVec 32 := 0#32
  let v123 : BitVec 1 := Scalar.cmpi .eq c4_i32_77 c0_i32_78
  let c1_i32_79 : BitVec 32 := 1#32
  let v124 : BitVec 32 := Scalar.select v123 c1_i32_79 c4_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let c4_i32_96 : BitVec 32 := 4#32
  let v160 : BitVec 32 := Scalar.muli v132 c4_i32_96
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_88 : BitVec 32 := 1#32
  let v148 : BitVec 32 := Scalar.addi v29 c1_i32_88
  let v149 : BitVec 32 := Scalar.addi v148 c0_i32_89
  let c4_i32_90 : BitVec 32 := 4#32
  let c0_i32_91 : BitVec 32 := 0#32
  let v150 : BitVec 1 := Scalar.cmpi .eq c4_i32_90 c0_i32_91
  let c1_i32_92 : BitVec 32 := 1#32
  let v151 : BitVec 32 := Scalar.select v150 c1_i32_92 c4_i32_90
  let v152 : BitVec 32 := Scalar.remsi v149 v151
  let c0_i32_94 : BitVec 32 := 0#32
  let v154 : BitVec 1 := Scalar.cmpi .slt v152 c0_i32_94
  let c0_i32_95 : BitVec 32 := 0#32
  let v155 : BitVec 1 := Scalar.cmpi .slt v151 c0_i32_95
  let v156 : BitVec 1 := Scalar.xori v154 v155
  let c0_i32_93 : BitVec 32 := 0#32
  let v153 : BitVec 1 := Scalar.cmpi .ne v152 c0_i32_93
  let v157 : BitVec 1 := Scalar.andi v156 v153
  let v158 : BitVec 32 := Scalar.addi v152 v151
  let v159 : BitVec 32 := Scalar.select v157 v158 v152
  let v161 : BitVec 32 := Scalar.addi v160 v159
  let c128_i32_97 : BitVec 32 := 128#32
  let v162 : BitVec 32 := Scalar.muli v161 c128_i32_97
  let v163 : Index := Scalar.indexCast v162
  let c0_98 : Index := 0#32
  ![v163.toNat, 0]
def k0_off4 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_75 : BitVec 32 := 1#32
  let v121 : BitVec 32 := Scalar.addi v19 c1_i32_75
  let v122 : BitVec 32 := Scalar.addi v121 c0_i32_76
  let c4_i32_77 : BitVec 32 := 4#32
  let c0_i32_78 : BitVec 32 := 0#32
  let v123 : BitVec 1 := Scalar.cmpi .eq c4_i32_77 c0_i32_78
  let c1_i32_79 : BitVec 32 := 1#32
  let v124 : BitVec 32 := Scalar.select v123 c1_i32_79 c4_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v132.toNat, v29.toNat]
def k0_off5 (d0 : Dev nD) (c0_i32_76 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_75 : BitVec 32 := 1#32
  let v121 : BitVec 32 := Scalar.addi v19 c1_i32_75
  let v122 : BitVec 32 := Scalar.addi v121 c0_i32_76
  let c4_i32_77 : BitVec 32 := 4#32
  let c0_i32_78 : BitVec 32 := 0#32
  let v123 : BitVec 1 := Scalar.cmpi .eq c4_i32_77 c0_i32_78
  let c1_i32_79 : BitVec 32 := 1#32
  let v124 : BitVec 32 := Scalar.select v123 c1_i32_79 c4_i32_77
  let v125 : BitVec 32 := Scalar.remsi v122 v124
  let c0_i32_81 : BitVec 32 := 0#32
  let v127 : BitVec 1 := Scalar.cmpi .slt v125 c0_i32_81
  let c0_i32_82 : BitVec 32 := 0#32
  let v128 : BitVec 1 := Scalar.cmpi .slt v124 c0_i32_82
  let v129 : BitVec 1 := Scalar.xori v127 v128
  let c0_i32_80 : BitVec 32 := 0#32
  let v126 : BitVec 1 := Scalar.cmpi .ne v125 c0_i32_80
  let v130 : BitVec 1 := Scalar.andi v129 v126
  let v131 : BitVec 32 := Scalar.addi v125 v124
  let v132 : BitVec 32 := Scalar.select v130 v131 v125
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_113 : BitVec 32 := 0#32
  let c0_i32_114 : BitVec 32 := 0#32
  ![v132.toNat, v29.toNat, 0, 0]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_106 : BitVec 32 := 4#32
  let v173 : BitVec 32 := Scalar.muli v19 c4_i32_106
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_88 : BitVec 32 := 1#32
  let v148 : BitVec 32 := Scalar.addi v29 c1_i32_88
  let c0_i32_89 : BitVec 32 := 0#32
  let v149 : BitVec 32 := Scalar.addi v148 c0_i32_89
  let c4_i32_90 : BitVec 32 := 4#32
  let c0_i32_91 : BitVec 32 := 0#32
  let v150 : BitVec 1 := Scalar.cmpi .eq c4_i32_90 c0_i32_91
  let c1_i32_92 : BitVec 32 := 1#32
  let v151 : BitVec 32 := Scalar.select v150 c1_i32_92 c4_i32_90
  let v152 : BitVec 32 := Scalar.remsi v149 v151
  let c0_i32_94 : BitVec 32 := 0#32
  let v154 : BitVec 1 := Scalar.cmpi .slt v152 c0_i32_94
  let c0_i32_95 : BitVec 32 := 0#32
  let v155 : BitVec 1 := Scalar.cmpi .slt v151 c0_i32_95
  let v156 : BitVec 1 := Scalar.xori v154 v155
  let c0_i32_93 : BitVec 32 := 0#32
  let v153 : BitVec 1 := Scalar.cmpi .ne v152 c0_i32_93
  let v157 : BitVec 1 := Scalar.andi v156 v153
  let v158 : BitVec 32 := Scalar.addi v152 v151
  let v159 : BitVec 32 := Scalar.select v157 v158 v152
  let v174 : BitVec 32 := Scalar.addi v173 v159
  let c1_i32_111 : BitVec 32 := 1#32
  let v175 : BitVec 32 := Scalar.muli v174 c1_i32_111
  let v176 : BitVec 32 := Scalar.addi c0_i32_112 v175
  v176.toNat
def k0_dev8 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_134 : BitVec 32 := 4#32
  let v210 : BitVec 32 := Scalar.muli v19 c4_i32_134
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_117 : BitVec 32 := 1#32
  let v185 : BitVec 32 := Scalar.addi v29 c1_i32_117
  let c1_i32_118 : BitVec 32 := 1#32
  let v186 : BitVec 32 := Scalar.addi v185 c1_i32_118
  let c4_i32_119 : BitVec 32 := 4#32
  let c0_i32_120 : BitVec 32 := 0#32
  let v187 : BitVec 1 := Scalar.cmpi .eq c4_i32_119 c0_i32_120
  let c1_i32_121 : BitVec 32 := 1#32
  let v188 : BitVec 32 := Scalar.select v187 c1_i32_121 c4_i32_119
  let v189 : BitVec 32 := Scalar.remsi v186 v188
  let c0_i32_123 : BitVec 32 := 0#32
  let v191 : BitVec 1 := Scalar.cmpi .slt v189 c0_i32_123
  let c0_i32_124 : BitVec 32 := 0#32
  let v192 : BitVec 1 := Scalar.cmpi .slt v188 c0_i32_124
  let v193 : BitVec 1 := Scalar.xori v191 v192
  let c0_i32_122 : BitVec 32 := 0#32
  let v190 : BitVec 1 := Scalar.cmpi .ne v189 c0_i32_122
  let v194 : BitVec 1 := Scalar.andi v193 v190
  let v195 : BitVec 32 := Scalar.addi v189 v188
  let v196 : BitVec 32 := Scalar.select v194 v195 v189
  let v211 : BitVec 32 := Scalar.addi v210 v196
  let c1_i32_139 : BitVec 32 := 1#32
  let v212 : BitVec 32 := Scalar.muli v211 c1_i32_139
  let v213 : BitVec 32 := Scalar.addi c0_i32_140 v212
  v213.toNat
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_162 : BitVec 32 := 4#32
  let v247 : BitVec 32 := Scalar.muli v19 c4_i32_162
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_145 : BitVec 32 := 1#32
  let v222 : BitVec 32 := Scalar.addi v29 c1_i32_145
  let c2_i32_146 : BitVec 32 := 2#32
  let v223 : BitVec 32 := Scalar.addi v222 c2_i32_146
  let c4_i32_147 : BitVec 32 := 4#32
  let c0_i32_148 : BitVec 32 := 0#32
  let v224 : BitVec 1 := Scalar.cmpi .eq c4_i32_147 c0_i32_148
  let c1_i32_149 : BitVec 32 := 1#32
  let v225 : BitVec 32 := Scalar.select v224 c1_i32_149 c4_i32_147
  let v226 : BitVec 32 := Scalar.remsi v223 v225
  let c0_i32_151 : BitVec 32 := 0#32
  let v228 : BitVec 1 := Scalar.cmpi .slt v226 c0_i32_151
  let c0_i32_152 : BitVec 32 := 0#32
  let v229 : BitVec 1 := Scalar.cmpi .slt v225 c0_i32_152
  let v230 : BitVec 1 := Scalar.xori v228 v229
  let c0_i32_150 : BitVec 32 := 0#32
  let v227 : BitVec 1 := Scalar.cmpi .ne v226 c0_i32_150
  let v231 : BitVec 1 := Scalar.andi v230 v227
  let v232 : BitVec 32 := Scalar.addi v226 v225
  let v233 : BitVec 32 := Scalar.select v231 v232 v226
  let v248 : BitVec 32 := Scalar.addi v247 v233
  let c1_i32_167 : BitVec 32 := 1#32
  let v249 : BitVec 32 := Scalar.muli v248 c1_i32_167
  let v250 : BitVec 32 := Scalar.addi c0_i32_168 v249
  v250.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_207 : BitVec 32 := 4#32
  let v311 : BitVec 32 := Scalar.muli v19 c4_i32_207
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_189 : BitVec 32 := 1#32
  let v286 : BitVec 32 := Scalar.addi v29 c1_i32_189
  let c0_i32_190 : BitVec 32 := 0#32
  let v287 : BitVec 32 := Scalar.addi v286 c0_i32_190
  let c4_i32_191 : BitVec 32 := 4#32
  let c0_i32_192 : BitVec 32 := 0#32
  let v288 : BitVec 1 := Scalar.cmpi .eq c4_i32_191 c0_i32_192
  let c1_i32_193 : BitVec 32 := 1#32
  let v289 : BitVec 32 := Scalar.select v288 c1_i32_193 c4_i32_191
  let v290 : BitVec 32 := Scalar.remsi v287 v289
  let c0_i32_195 : BitVec 32 := 0#32
  let v292 : BitVec 1 := Scalar.cmpi .slt v290 c0_i32_195
  let c0_i32_196 : BitVec 32 := 0#32
  let v293 : BitVec 1 := Scalar.cmpi .slt v289 c0_i32_196
  let v294 : BitVec 1 := Scalar.xori v292 v293
  let c0_i32_194 : BitVec 32 := 0#32
  let v291 : BitVec 1 := Scalar.cmpi .ne v290 c0_i32_194
  let v295 : BitVec 1 := Scalar.andi v294 v291
  let v296 : BitVec 32 := Scalar.addi v290 v289
  let v297 : BitVec 32 := Scalar.select v295 v296 v290
  let v312 : BitVec 32 := Scalar.addi v311 v297
  let c1_i32_212 : BitVec 32 := 1#32
  let v313 : BitVec 32 := Scalar.muli v312 c1_i32_212
  let v314 : BitVec 32 := Scalar.addi c0_i32_213 v313
  v314.toNat
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_236 : BitVec 32 := 4#32
  let v348 : BitVec 32 := Scalar.muli v19 c4_i32_236
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_218 : BitVec 32 := 1#32
  let v323 : BitVec 32 := Scalar.addi v29 c1_i32_218
  let c1_i32_219 : BitVec 32 := 1#32
  let v324 : BitVec 32 := Scalar.addi v323 c1_i32_219
  let c4_i32_220 : BitVec 32 := 4#32
  let c0_i32_221 : BitVec 32 := 0#32
  let v325 : BitVec 1 := Scalar.cmpi .eq c4_i32_220 c0_i32_221
  let c1_i32_222 : BitVec 32 := 1#32
  let v326 : BitVec 32 := Scalar.select v325 c1_i32_222 c4_i32_220
  let v327 : BitVec 32 := Scalar.remsi v324 v326
  let c0_i32_224 : BitVec 32 := 0#32
  let v329 : BitVec 1 := Scalar.cmpi .slt v327 c0_i32_224
  let c0_i32_225 : BitVec 32 := 0#32
  let v330 : BitVec 1 := Scalar.cmpi .slt v326 c0_i32_225
  let v331 : BitVec 1 := Scalar.xori v329 v330
  let c0_i32_223 : BitVec 32 := 0#32
  let v328 : BitVec 1 := Scalar.cmpi .ne v327 c0_i32_223
  let v332 : BitVec 1 := Scalar.andi v331 v328
  let v333 : BitVec 32 := Scalar.addi v327 v326
  let v334 : BitVec 32 := Scalar.select v332 v333 v327
  let v349 : BitVec 32 := Scalar.addi v348 v334
  let c1_i32_241 : BitVec 32 := 1#32
  let v350 : BitVec 32 := Scalar.muli v349 c1_i32_241
  let v351 : BitVec 32 := Scalar.addi c0_i32_242 v350
  v351.toNat
def k0_dev12 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_265 : BitVec 32 := 4#32
  let v385 : BitVec 32 := Scalar.muli v19 c4_i32_265
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_247 : BitVec 32 := 1#32
  let v360 : BitVec 32 := Scalar.addi v29 c1_i32_247
  let c2_i32_248 : BitVec 32 := 2#32
  let v361 : BitVec 32 := Scalar.addi v360 c2_i32_248
  let c4_i32_249 : BitVec 32 := 4#32
  let c0_i32_250 : BitVec 32 := 0#32
  let v362 : BitVec 1 := Scalar.cmpi .eq c4_i32_249 c0_i32_250
  let c1_i32_251 : BitVec 32 := 1#32
  let v363 : BitVec 32 := Scalar.select v362 c1_i32_251 c4_i32_249
  let v364 : BitVec 32 := Scalar.remsi v361 v363
  let c0_i32_253 : BitVec 32 := 0#32
  let v366 : BitVec 1 := Scalar.cmpi .slt v364 c0_i32_253
  let c0_i32_254 : BitVec 32 := 0#32
  let v367 : BitVec 1 := Scalar.cmpi .slt v363 c0_i32_254
  let v368 : BitVec 1 := Scalar.xori v366 v367
  let c0_i32_252 : BitVec 32 := 0#32
  let v365 : BitVec 1 := Scalar.cmpi .ne v364 c0_i32_252
  let v369 : BitVec 1 := Scalar.andi v368 v365
  let v370 : BitVec 32 := Scalar.addi v364 v363
  let v371 : BitVec 32 := Scalar.select v369 v370 v364
  let v386 : BitVec 32 := Scalar.addi v385 v371
  let c1_i32_270 : BitVec 32 := 1#32
  let v387 : BitVec 32 := Scalar.muli v386 c1_i32_270
  let v388 : BitVec 32 := Scalar.addi c0_i32_271 v387
  v388.toNat
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_310 : BitVec 32 := 4#32
  let v449 : BitVec 32 := Scalar.muli v19 c4_i32_310
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_292 : BitVec 32 := 1#32
  let v424 : BitVec 32 := Scalar.addi v29 c1_i32_292
  let c0_i32_293 : BitVec 32 := 0#32
  let v425 : BitVec 32 := Scalar.addi v424 c0_i32_293
  let c4_i32_294 : BitVec 32 := 4#32
  let c0_i32_295 : BitVec 32 := 0#32
  let v426 : BitVec 1 := Scalar.cmpi .eq c4_i32_294 c0_i32_295
  let c1_i32_296 : BitVec 32 := 1#32
  let v427 : BitVec 32 := Scalar.select v426 c1_i32_296 c4_i32_294
  let v428 : BitVec 32 := Scalar.remsi v425 v427
  let c0_i32_298 : BitVec 32 := 0#32
  let v430 : BitVec 1 := Scalar.cmpi .slt v428 c0_i32_298
  let c0_i32_299 : BitVec 32 := 0#32
  let v431 : BitVec 1 := Scalar.cmpi .slt v427 c0_i32_299
  let v432 : BitVec 1 := Scalar.xori v430 v431
  let c0_i32_297 : BitVec 32 := 0#32
  let v429 : BitVec 1 := Scalar.cmpi .ne v428 c0_i32_297
  let v433 : BitVec 1 := Scalar.andi v432 v429
  let v434 : BitVec 32 := Scalar.addi v428 v427
  let v435 : BitVec 32 := Scalar.select v433 v434 v428
  let v450 : BitVec 32 := Scalar.addi v449 v435
  let c1_i32_315 : BitVec 32 := 1#32
  let v451 : BitVec 32 := Scalar.muli v450 c1_i32_315
  let v452 : BitVec 32 := Scalar.addi c0_i32_316 v451
  v452.toNat
def k0_dev14 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_339 : BitVec 32 := 4#32
  let v486 : BitVec 32 := Scalar.muli v19 c4_i32_339
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_321 : BitVec 32 := 1#32
  let v461 : BitVec 32 := Scalar.addi v29 c1_i32_321
  let c1_i32_322 : BitVec 32 := 1#32
  let v462 : BitVec 32 := Scalar.addi v461 c1_i32_322
  let c4_i32_323 : BitVec 32 := 4#32
  let c0_i32_324 : BitVec 32 := 0#32
  let v463 : BitVec 1 := Scalar.cmpi .eq c4_i32_323 c0_i32_324
  let c1_i32_325 : BitVec 32 := 1#32
  let v464 : BitVec 32 := Scalar.select v463 c1_i32_325 c4_i32_323
  let v465 : BitVec 32 := Scalar.remsi v462 v464
  let c0_i32_327 : BitVec 32 := 0#32
  let v467 : BitVec 1 := Scalar.cmpi .slt v465 c0_i32_327
  let c0_i32_328 : BitVec 32 := 0#32
  let v468 : BitVec 1 := Scalar.cmpi .slt v464 c0_i32_328
  let v469 : BitVec 1 := Scalar.xori v467 v468
  let c0_i32_326 : BitVec 32 := 0#32
  let v466 : BitVec 1 := Scalar.cmpi .ne v465 c0_i32_326
  let v470 : BitVec 1 := Scalar.andi v469 v466
  let v471 : BitVec 32 := Scalar.addi v465 v464
  let v472 : BitVec 32 := Scalar.select v470 v471 v465
  let v487 : BitVec 32 := Scalar.addi v486 v472
  let c1_i32_344 : BitVec 32 := 1#32
  let v488 : BitVec 32 := Scalar.muli v487 c1_i32_344
  let v489 : BitVec 32 := Scalar.addi c0_i32_345 v488
  v489.toNat
def k0_dev15 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_368 : BitVec 32 := 4#32
  let v523 : BitVec 32 := Scalar.muli v19 c4_i32_368
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_350 : BitVec 32 := 1#32
  let v498 : BitVec 32 := Scalar.addi v29 c1_i32_350
  let c2_i32_351 : BitVec 32 := 2#32
  let v499 : BitVec 32 := Scalar.addi v498 c2_i32_351
  let c4_i32_352 : BitVec 32 := 4#32
  let c0_i32_353 : BitVec 32 := 0#32
  let v500 : BitVec 1 := Scalar.cmpi .eq c4_i32_352 c0_i32_353
  let c1_i32_354 : BitVec 32 := 1#32
  let v501 : BitVec 32 := Scalar.select v500 c1_i32_354 c4_i32_352
  let v502 : BitVec 32 := Scalar.remsi v499 v501
  let c0_i32_356 : BitVec 32 := 0#32
  let v504 : BitVec 1 := Scalar.cmpi .slt v502 c0_i32_356
  let c0_i32_357 : BitVec 32 := 0#32
  let v505 : BitVec 1 := Scalar.cmpi .slt v501 c0_i32_357
  let v506 : BitVec 1 := Scalar.xori v504 v505
  let c0_i32_355 : BitVec 32 := 0#32
  let v503 : BitVec 1 := Scalar.cmpi .ne v502 c0_i32_355
  let v507 : BitVec 1 := Scalar.andi v506 v503
  let v508 : BitVec 32 := Scalar.addi v502 v501
  let v509 : BitVec 32 := Scalar.select v507 v508 v502
  let v524 : BitVec 32 := Scalar.addi v523 v509
  let c1_i32_373 : BitVec 32 := 1#32
  let v525 : BitVec 32 := Scalar.muli v524 c1_i32_373
  let v526 : BitVec 32 := Scalar.addi c0_i32_374 v525
  v526.toNat
def k0_dev16 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_412 : BitVec 32 := 4#32
  let v587 : BitVec 32 := Scalar.muli v19 c4_i32_412
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_395 : BitVec 32 := 1#32
  let v562 : BitVec 32 := Scalar.addi v29 c1_i32_395
  let c0_i32_396 : BitVec 32 := 0#32
  let v563 : BitVec 32 := Scalar.addi v562 c0_i32_396
  let c4_i32_397 : BitVec 32 := 4#32
  let c0_i32_398 : BitVec 32 := 0#32
  let v564 : BitVec 1 := Scalar.cmpi .eq c4_i32_397 c0_i32_398
  let c1_i32_399 : BitVec 32 := 1#32
  let v565 : BitVec 32 := Scalar.select v564 c1_i32_399 c4_i32_397
  let v566 : BitVec 32 := Scalar.remsi v563 v565
  let c0_i32_401 : BitVec 32 := 0#32
  let v568 : BitVec 1 := Scalar.cmpi .slt v566 c0_i32_401
  let c0_i32_402 : BitVec 32 := 0#32
  let v569 : BitVec 1 := Scalar.cmpi .slt v565 c0_i32_402
  let v570 : BitVec 1 := Scalar.xori v568 v569
  let c0_i32_400 : BitVec 32 := 0#32
  let v567 : BitVec 1 := Scalar.cmpi .ne v566 c0_i32_400
  let v571 : BitVec 1 := Scalar.andi v570 v567
  let v572 : BitVec 32 := Scalar.addi v566 v565
  let v573 : BitVec 32 := Scalar.select v571 v572 v566
  let v588 : BitVec 32 := Scalar.addi v587 v573
  let c1_i32_417 : BitVec 32 := 1#32
  let v589 : BitVec 32 := Scalar.muli v588 c1_i32_417
  let v590 : BitVec 32 := Scalar.addi c0_i32_418 v589
  v590.toNat
def k0_dev17 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_441 : BitVec 32 := 4#32
  let v624 : BitVec 32 := Scalar.muli v19 c4_i32_441
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_423 : BitVec 32 := 1#32
  let v599 : BitVec 32 := Scalar.addi v29 c1_i32_423
  let c1_i32_424 : BitVec 32 := 1#32
  let v600 : BitVec 32 := Scalar.addi v599 c1_i32_424
  let c4_i32_425 : BitVec 32 := 4#32
  let c0_i32_426 : BitVec 32 := 0#32
  let v601 : BitVec 1 := Scalar.cmpi .eq c4_i32_425 c0_i32_426
  let c1_i32_427 : BitVec 32 := 1#32
  let v602 : BitVec 32 := Scalar.select v601 c1_i32_427 c4_i32_425
  let v603 : BitVec 32 := Scalar.remsi v600 v602
  let c0_i32_429 : BitVec 32 := 0#32
  let v605 : BitVec 1 := Scalar.cmpi .slt v603 c0_i32_429
  let c0_i32_430 : BitVec 32 := 0#32
  let v606 : BitVec 1 := Scalar.cmpi .slt v602 c0_i32_430
  let v607 : BitVec 1 := Scalar.xori v605 v606
  let c0_i32_428 : BitVec 32 := 0#32
  let v604 : BitVec 1 := Scalar.cmpi .ne v603 c0_i32_428
  let v608 : BitVec 1 := Scalar.andi v607 v604
  let v609 : BitVec 32 := Scalar.addi v603 v602
  let v610 : BitVec 32 := Scalar.select v608 v609 v603
  let v625 : BitVec 32 := Scalar.addi v624 v610
  let c1_i32_446 : BitVec 32 := 1#32
  let v626 : BitVec 32 := Scalar.muli v625 c1_i32_446
  let v627 : BitVec 32 := Scalar.addi c0_i32_447 v626
  v627.toNat
def k0_dev18 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_470 : BitVec 32 := 4#32
  let v661 : BitVec 32 := Scalar.muli v19 c4_i32_470
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_452 : BitVec 32 := 1#32
  let v636 : BitVec 32 := Scalar.addi v29 c1_i32_452
  let c2_i32_453 : BitVec 32 := 2#32
  let v637 : BitVec 32 := Scalar.addi v636 c2_i32_453
  let c4_i32_454 : BitVec 32 := 4#32
  let c0_i32_455 : BitVec 32 := 0#32
  let v638 : BitVec 1 := Scalar.cmpi .eq c4_i32_454 c0_i32_455
  let c1_i32_456 : BitVec 32 := 1#32
  let v639 : BitVec 32 := Scalar.select v638 c1_i32_456 c4_i32_454
  let v640 : BitVec 32 := Scalar.remsi v637 v639
  let c0_i32_458 : BitVec 32 := 0#32
  let v642 : BitVec 1 := Scalar.cmpi .slt v640 c0_i32_458
  let c0_i32_459 : BitVec 32 := 0#32
  let v643 : BitVec 1 := Scalar.cmpi .slt v639 c0_i32_459
  let v644 : BitVec 1 := Scalar.xori v642 v643
  let c0_i32_457 : BitVec 32 := 0#32
  let v641 : BitVec 1 := Scalar.cmpi .ne v640 c0_i32_457
  let v645 : BitVec 1 := Scalar.andi v644 v641
  let v646 : BitVec 32 := Scalar.addi v640 v639
  let v647 : BitVec 32 := Scalar.select v645 v646 v640
  let v662 : BitVec 32 := Scalar.addi v661 v647
  let c1_i32_475 : BitVec 32 := 1#32
  let v663 : BitVec 32 := Scalar.muli v662 c1_i32_475
  let v664 : BitVec 32 := Scalar.addi c0_i32_476 v663
  v664.toNat
def k0_off6 (d0 : Dev nD) (c0_i32_482 : BitVec 32) (c0_i32_490 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_481 : BitVec 32 := 1#32
  let v673 : BitVec 32 := Scalar.addi v19 c1_i32_481
  let v674 : BitVec 32 := Scalar.addi v673 c0_i32_482
  let c4_i32_483 : BitVec 32 := 4#32
  let c0_i32_484 : BitVec 32 := 0#32
  let v675 : BitVec 1 := Scalar.cmpi .eq c4_i32_483 c0_i32_484
  let c1_i32_485 : BitVec 32 := 1#32
  let v676 : BitVec 32 := Scalar.select v675 c1_i32_485 c4_i32_483
  let v677 : BitVec 32 := Scalar.remsi v674 v676
  let c0_i32_487 : BitVec 32 := 0#32
  let v679 : BitVec 1 := Scalar.cmpi .slt v677 c0_i32_487
  let c0_i32_488 : BitVec 32 := 0#32
  let v680 : BitVec 1 := Scalar.cmpi .slt v676 c0_i32_488
  let v681 : BitVec 1 := Scalar.xori v679 v680
  let c0_i32_486 : BitVec 32 := 0#32
  let v678 : BitVec 1 := Scalar.cmpi .ne v677 c0_i32_486
  let v682 : BitVec 1 := Scalar.andi v681 v678
  let v683 : BitVec 32 := Scalar.addi v677 v676
  let v684 : BitVec 32 := Scalar.select v682 v683 v677
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_489 : BitVec 32 := 1#32
  let v685 : BitVec 32 := Scalar.addi v29 c1_i32_489
  let v686 : BitVec 32 := Scalar.addi v685 c0_i32_490
  let c4_i32_491 : BitVec 32 := 4#32
  let c0_i32_492 : BitVec 32 := 0#32
  let v687 : BitVec 1 := Scalar.cmpi .eq c4_i32_491 c0_i32_492
  let c1_i32_493 : BitVec 32 := 1#32
  let v688 : BitVec 32 := Scalar.select v687 c1_i32_493 c4_i32_491
  let v689 : BitVec 32 := Scalar.remsi v686 v688
  let c0_i32_495 : BitVec 32 := 0#32
  let v691 : BitVec 1 := Scalar.cmpi .slt v689 c0_i32_495
  let c0_i32_496 : BitVec 32 := 0#32
  let v692 : BitVec 1 := Scalar.cmpi .slt v688 c0_i32_496
  let v693 : BitVec 1 := Scalar.xori v691 v692
  let c0_i32_494 : BitVec 32 := 0#32
  let v690 : BitVec 1 := Scalar.cmpi .ne v689 c0_i32_494
  let v694 : BitVec 1 := Scalar.andi v693 v690
  let v695 : BitVec 32 := Scalar.addi v689 v688
  let v696 : BitVec 32 := Scalar.select v694 v695 v689
  ![v684.toNat, v696.toNat]
def k0_off7 (d0 : Dev nD) (c0_i32_482 : BitVec 32) (c0_i32_490 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_481 : BitVec 32 := 1#32
  let v673 : BitVec 32 := Scalar.addi v19 c1_i32_481
  let v674 : BitVec 32 := Scalar.addi v673 c0_i32_482
  let c4_i32_483 : BitVec 32 := 4#32
  let c0_i32_484 : BitVec 32 := 0#32
  let v675 : BitVec 1 := Scalar.cmpi .eq c4_i32_483 c0_i32_484
  let c1_i32_485 : BitVec 32 := 1#32
  let v676 : BitVec 32 := Scalar.select v675 c1_i32_485 c4_i32_483
  let v677 : BitVec 32 := Scalar.remsi v674 v676
  let c0_i32_487 : BitVec 32 := 0#32
  let v679 : BitVec 1 := Scalar.cmpi .slt v677 c0_i32_487
  let c0_i32_488 : BitVec 32 := 0#32
  let v680 : BitVec 1 := Scalar.cmpi .slt v676 c0_i32_488
  let v681 : BitVec 1 := Scalar.xori v679 v680
  let c0_i32_486 : BitVec 32 := 0#32
  let v678 : BitVec 1 := Scalar.cmpi .ne v677 c0_i32_486
  let v682 : BitVec 1 := Scalar.andi v681 v678
  let v683 : BitVec 32 := Scalar.addi v677 v676
  let v684 : BitVec 32 := Scalar.select v682 v683 v677
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_489 : BitVec 32 := 1#32
  let v685 : BitVec 32 := Scalar.addi v29 c1_i32_489
  let v686 : BitVec 32 := Scalar.addi v685 c0_i32_490
  let c4_i32_491 : BitVec 32 := 4#32
  let c0_i32_492 : BitVec 32 := 0#32
  let v687 : BitVec 1 := Scalar.cmpi .eq c4_i32_491 c0_i32_492
  let c1_i32_493 : BitVec 32 := 1#32
  let v688 : BitVec 32 := Scalar.select v687 c1_i32_493 c4_i32_491
  let v689 : BitVec 32 := Scalar.remsi v686 v688
  let c0_i32_495 : BitVec 32 := 0#32
  let v691 : BitVec 1 := Scalar.cmpi .slt v689 c0_i32_495
  let c0_i32_496 : BitVec 32 := 0#32
  let v692 : BitVec 1 := Scalar.cmpi .slt v688 c0_i32_496
  let v693 : BitVec 1 := Scalar.xori v691 v692
  let c0_i32_494 : BitVec 32 := 0#32
  let v690 : BitVec 1 := Scalar.cmpi .ne v689 c0_i32_494
  let v694 : BitVec 1 := Scalar.andi v693 v690
  let v695 : BitVec 32 := Scalar.addi v689 v688
  let v696 : BitVec 32 := Scalar.select v694 v695 v689
  let c0_i32_504 : BitVec 32 := 0#32
  let c0_i32_505 : BitVec 32 := 0#32
  ![v684.toNat, v696.toNat, 0, 0]
def k0_off8 (d0 : Dev nD) (c0_i32_482 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_481 : BitVec 32 := 1#32
  let v673 : BitVec 32 := Scalar.addi v19 c1_i32_481
  let v674 : BitVec 32 := Scalar.addi v673 c0_i32_482
  let c4_i32_483 : BitVec 32 := 4#32
  let c0_i32_484 : BitVec 32 := 0#32
  let v675 : BitVec 1 := Scalar.cmpi .eq c4_i32_483 c0_i32_484
  let c1_i32_485 : BitVec 32 := 1#32
  let v676 : BitVec 32 := Scalar.select v675 c1_i32_485 c4_i32_483
  let v677 : BitVec 32 := Scalar.remsi v674 v676
  let c0_i32_487 : BitVec 32 := 0#32
  let v679 : BitVec 1 := Scalar.cmpi .slt v677 c0_i32_487
  let c0_i32_488 : BitVec 32 := 0#32
  let v680 : BitVec 1 := Scalar.cmpi .slt v676 c0_i32_488
  let v681 : BitVec 1 := Scalar.xori v679 v680
  let c0_i32_486 : BitVec 32 := 0#32
  let v678 : BitVec 1 := Scalar.cmpi .ne v677 c0_i32_486
  let v682 : BitVec 1 := Scalar.andi v681 v678
  let v683 : BitVec 32 := Scalar.addi v677 v676
  let v684 : BitVec 32 := Scalar.select v682 v683 v677
  let v751 : Index := Scalar.indexCast v684
  let c0_546 : Index := 0#32
  let c0_547 : Index := 0#32
  let c0_548 : Index := 0#32
  ![v751.toNat, 0, 0, 0]
def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_558 : BitVec 32 := 0#32
  let c0_i32_559 : BitVec 32 := 0#32
  ![v19.toNat, 0, 0]
def k0_dev19 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_481 : BitVec 32 := 1#32
  let v673 : BitVec 32 := Scalar.addi v19 c1_i32_481
  let c0_i32_482 : BitVec 32 := 0#32
  let v674 : BitVec 32 := Scalar.addi v673 c0_i32_482
  let c4_i32_483 : BitVec 32 := 4#32
  let c0_i32_484 : BitVec 32 := 0#32
  let v675 : BitVec 1 := Scalar.cmpi .eq c4_i32_483 c0_i32_484
  let c1_i32_485 : BitVec 32 := 1#32
  let v676 : BitVec 32 := Scalar.select v675 c1_i32_485 c4_i32_483
  let v677 : BitVec 32 := Scalar.remsi v674 v676
  let c0_i32_487 : BitVec 32 := 0#32
  let v679 : BitVec 1 := Scalar.cmpi .slt v677 c0_i32_487
  let c0_i32_488 : BitVec 32 := 0#32
  let v680 : BitVec 1 := Scalar.cmpi .slt v676 c0_i32_488
  let v681 : BitVec 1 := Scalar.xori v679 v680
  let c0_i32_486 : BitVec 32 := 0#32
  let v678 : BitVec 1 := Scalar.cmpi .ne v677 c0_i32_486
  let v682 : BitVec 1 := Scalar.andi v681 v678
  let v683 : BitVec 32 := Scalar.addi v677 v676
  let v684 : BitVec 32 := Scalar.select v682 v683 v677
  let c4_i32_553 : BitVec 32 := 4#32
  let v760 : BitVec 32 := Scalar.muli v684 c4_i32_553
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v761 : BitVec 32 := Scalar.addi v760 v29
  let c1_i32_556 : BitVec 32 := 1#32
  let v762 : BitVec 32 := Scalar.muli v761 c1_i32_556
  let v763 : BitVec 32 := Scalar.addi c0_i32_557 v762
  v763.toNat
def k0_dev20 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_562 : BitVec 32 := 1#32
  let v772 : BitVec 32 := Scalar.addi v19 c1_i32_562
  let c1_i32_563 : BitVec 32 := 1#32
  let v773 : BitVec 32 := Scalar.addi v772 c1_i32_563
  let c4_i32_564 : BitVec 32 := 4#32
  let c0_i32_565 : BitVec 32 := 0#32
  let v774 : BitVec 1 := Scalar.cmpi .eq c4_i32_564 c0_i32_565
  let c1_i32_566 : BitVec 32 := 1#32
  let v775 : BitVec 32 := Scalar.select v774 c1_i32_566 c4_i32_564
  let v776 : BitVec 32 := Scalar.remsi v773 v775
  let c0_i32_568 : BitVec 32 := 0#32
  let v778 : BitVec 1 := Scalar.cmpi .slt v776 c0_i32_568
  let c0_i32_569 : BitVec 32 := 0#32
  let v779 : BitVec 1 := Scalar.cmpi .slt v775 c0_i32_569
  let v780 : BitVec 1 := Scalar.xori v778 v779
  let c0_i32_567 : BitVec 32 := 0#32
  let v777 : BitVec 1 := Scalar.cmpi .ne v776 c0_i32_567
  let v781 : BitVec 1 := Scalar.andi v780 v777
  let v782 : BitVec 32 := Scalar.addi v776 v775
  let v783 : BitVec 32 := Scalar.select v781 v782 v776
  let c4_i32_634 : BitVec 32 := 4#32
  let v859 : BitVec 32 := Scalar.muli v783 c4_i32_634
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v860 : BitVec 32 := Scalar.addi v859 v29
  let c1_i32_637 : BitVec 32 := 1#32
  let v861 : BitVec 32 := Scalar.muli v860 c1_i32_637
  let v862 : BitVec 32 := Scalar.addi c0_i32_638 v861
  v862.toNat
def k0_dev21 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_643 : BitVec 32 := 1#32
  let v871 : BitVec 32 := Scalar.addi v19 c1_i32_643
  let c2_i32_644 : BitVec 32 := 2#32
  let v872 : BitVec 32 := Scalar.addi v871 c2_i32_644
  let c4_i32_645 : BitVec 32 := 4#32
  let c0_i32_646 : BitVec 32 := 0#32
  let v873 : BitVec 1 := Scalar.cmpi .eq c4_i32_645 c0_i32_646
  let c1_i32_647 : BitVec 32 := 1#32
  let v874 : BitVec 32 := Scalar.select v873 c1_i32_647 c4_i32_645
  let v875 : BitVec 32 := Scalar.remsi v872 v874
  let c0_i32_649 : BitVec 32 := 0#32
  let v877 : BitVec 1 := Scalar.cmpi .slt v875 c0_i32_649
  let c0_i32_650 : BitVec 32 := 0#32
  let v878 : BitVec 1 := Scalar.cmpi .slt v874 c0_i32_650
  let v879 : BitVec 1 := Scalar.xori v877 v878
  let c0_i32_648 : BitVec 32 := 0#32
  let v876 : BitVec 1 := Scalar.cmpi .ne v875 c0_i32_648
  let v880 : BitVec 1 := Scalar.andi v879 v876
  let v881 : BitVec 32 := Scalar.addi v875 v874
  let v882 : BitVec 32 := Scalar.select v880 v881 v875
  let c4_i32_715 : BitVec 32 := 4#32
  let v958 : BitVec 32 := Scalar.muli v882 c4_i32_715
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v959 : BitVec 32 := Scalar.addi v958 v29
  let c1_i32_718 : BitVec 32 := 1#32
  let v960 : BitVec 32 := Scalar.muli v959 c1_i32_718
  let v961 : BitVec 32 := Scalar.addi c0_i32_719 v960
  v961.toNat
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1054 : Index := Scalar.indexCast v19
  let c0_793 : Index := 0#32
  let c0_794 : Index := 0#32
  ![v1054.toNat, 0, 0]
def k0_off12 (d0 : Dev nD) (c1_i32_795 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1058 : BitVec 32 := Scalar.addi v19 c1_i32_795
  let c4_i32_796 : BitVec 32 := 4#32
  let c0_i32_797 : BitVec 32 := 0#32
  let v1059 : BitVec 1 := Scalar.cmpi .eq c4_i32_796 c0_i32_797
  let c1_i32_798 : BitVec 32 := 1#32
  let v1060 : BitVec 32 := Scalar.select v1059 c1_i32_798 c4_i32_796
  let v1061 : BitVec 32 := Scalar.remsi v1058 v1060
  let c0_i32_800 : BitVec 32 := 0#32
  let v1063 : BitVec 1 := Scalar.cmpi .slt v1061 c0_i32_800
  let c0_i32_801 : BitVec 32 := 0#32
  let v1064 : BitVec 1 := Scalar.cmpi .slt v1060 c0_i32_801
  let v1065 : BitVec 1 := Scalar.xori v1063 v1064
  let c0_i32_799 : BitVec 32 := 0#32
  let v1062 : BitVec 1 := Scalar.cmpi .ne v1061 c0_i32_799
  let v1066 : BitVec 1 := Scalar.andi v1065 v1062
  let v1067 : BitVec 32 := Scalar.addi v1061 v1060
  let v1068 : BitVec 32 := Scalar.select v1066 v1067 v1061
  ![v1068.toNat]
def k0_off13 (d0 : Dev nD) (c1_i32_795 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1058 : BitVec 32 := Scalar.addi v19 c1_i32_795
  let c4_i32_796 : BitVec 32 := 4#32
  let c0_i32_797 : BitVec 32 := 0#32
  let v1059 : BitVec 1 := Scalar.cmpi .eq c4_i32_796 c0_i32_797
  let c1_i32_798 : BitVec 32 := 1#32
  let v1060 : BitVec 32 := Scalar.select v1059 c1_i32_798 c4_i32_796
  let v1061 : BitVec 32 := Scalar.remsi v1058 v1060
  let c0_i32_800 : BitVec 32 := 0#32
  let v1063 : BitVec 1 := Scalar.cmpi .slt v1061 c0_i32_800
  let c0_i32_801 : BitVec 32 := 0#32
  let v1064 : BitVec 1 := Scalar.cmpi .slt v1060 c0_i32_801
  let v1065 : BitVec 1 := Scalar.xori v1063 v1064
  let c0_i32_799 : BitVec 32 := 0#32
  let v1062 : BitVec 1 := Scalar.cmpi .ne v1061 c0_i32_799
  let v1066 : BitVec 1 := Scalar.andi v1065 v1062
  let v1067 : BitVec 32 := Scalar.addi v1061 v1060
  let v1068 : BitVec 32 := Scalar.select v1066 v1067 v1061
  let c0_i32_807 : BitVec 32 := 0#32
  let c0_i32_808 : BitVec 32 := 0#32
  ![v1068.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384x2048, .f32⟩
  | .hbm, ⟨2, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
# `Plan`: the kernel body, written once over its loop counters

The printed body is straight-line: the four passes over the planes and the three over the other devices of a plane are
unrolled. Here it is a handful of named steps over those counters (`zi`: which plane, `kp`: which other device of the
plane, `kz`: which other plane), and `body_eq` says the printed body is their sequence.
-/
module

public import proofs.«01_k».proof.Proof.Gen.KernelIdeal
public import proofs.«01_k».proof.Proof.Gen.KernelIdeal.Skeleton

@[expose] public section

noncomputable section

namespace Cert.Scatter

open Cert.KernelIdeal Cert.KernelIdeal.Gen
open Idealize.ShloMosaic Idealize.SL.Sem

variable {F : FTy → Type} [FloatOps F]

/-! ## The buffers -/

abbrev aM : Memref sig .tc .vmem S2048x1024 .f32 := Memref.whole cc0_stg0_0
abbrev bM : Memref sig .tc .vmem S1024x2048 .f32 := Memref.whole cc0_stg1_0
abbrev oM : Memref sig .tc .vmem S128x2048 .f32 := Memref.whole cc0_stg2_0
/-- what is sent in the plane, by other device and plane; -/
abbrev s1M : Memref sig .tc .vmem S3x4x128x2048 .bf16 := Memref.whole cc0_scratch0
/-- what arrives in the plane, by plane and sender; -/
abbrev r1M : Memref sig .tc .vmem S4x4x128x2048 .bf16 := Memref.whole cc0_scratch1
/-- what is sent across the planes; -/
abbrev s2M : Memref sig .tc .vmem S3x128x2048 .bf16 := Memref.whole cc0_scratch2
/-- what arrives across the planes, by sender. -/
abbrev r2M : Memref sig .tc .vmem S4x128x2048 .bf16 := Memref.whole cc0_scratch3

/-! ## The rectangles -/

abbrev w2 (r : Fin 3) : BitVec 32 := BitVec.ofNat 32 r.val
abbrev w1 (r : Fin 4) : BitVec 32 := BitVec.ofNat 32 r.val
abbrev w3 (r : Fin 3) : BitVec 32 := BitVec.ofNat 32 (1 + r.val)

theorem s1_inb : ∀ (kp : Fin 3) (zi : Fin 4), ∀ a, (![kp.val, zi.val, 0, 0] : Fin 4 → Nat) a + S1x1x128x2048.size a ≤ S3x4x128x2048.size a := by decide
theorem s1Sem_inb : ∀ (kp : Fin 3) (zi : Fin 4), ∀ a, (![kp.val, zi.val] : Fin 2 → Nat) a + S1x1.size a ≤ S3x4.size a := by decide
theorem s2_inb : ∀ (kz : Fin 3), ∀ a, (![kz.val, 0, 0] : Fin 3 → Nat) a + S1x128x2048.size a ≤ S3x128x2048.size a := by decide
theorem s2Sem_inb : ∀ (kz : Fin 3), ∀ a, (![kz.val] : Fin 1 → Nat) a + S1.size a ≤ S3.size a := by decide

abbrev aOwn (d : Dev nD) (zi : Fin 4) : Rect S2048x1024 := Rect.unit (s := S2048x1024) (k0_off1 d (w1 zi)) S128x1024.size (k0_off1_inb d zi)
abbrev aTo (d : Dev nD) (zi : Fin 4) (kp : Fin 3) : Rect S2048x1024 := Rect.unit (s := S2048x1024) (k0_off3 d (w1 zi) (w2 kp)) S128x1024.size (k0_off3_inb d zi kp)
abbrev bAll : Rect S1024x2048 := Rect.unit (s := S1024x2048) ![0, 0] S1024x2048.size inb_S1024x2048_S1024x2048_0_0
abbrev oAll : Rect S128x2048 := Rect.unit (s := S128x2048) ![0, 0] S128x2048.size inb_S128x2048_S128x2048_0_0
abbrev s1R (kp : Fin 3) (zi : Fin 4) : Rect S3x4x128x2048 := Rect.unit (s := S3x4x128x2048) ![kp.val, zi.val, 0, 0] S1x1x128x2048.size (s1_inb kp zi)
abbrev r1Own (d : Dev nD) (zi : Fin 4) : Rect S4x4x128x2048 := Rect.unit (s := S4x4x128x2048) (k0_off2 d (w1 zi)) S1x1x128x2048.size (k0_off2_inb d zi)
abbrev r1To (d : Dev nD) (zi : Fin 4) : Rect S4x4x128x2048 := Rect.unit (s := S4x4x128x2048) (k0_off5 d (w1 zi)) S1x1x128x2048.size (k0_off5_inb d zi)
abbrev r1From (d : Dev nD) (zi : Fin 4) (kp : Fin 3) : Rect S4x4x128x2048 := Rect.unit (s := S4x4x128x2048) (k0_off7 d (w1 zi) (w2 kp)) S1x1x128x2048.size (k0_off7_inb d zi kp)
abbrev r1Row (d : Dev nD) (zi : Fin 4) : Rect S4x4x128x2048 := Rect.unit (s := S4x4x128x2048) (k0_off8 d (w1 zi)) S1x4x128x2048.size (k0_off8_inb d zi)
abbrev s2R (kz : Fin 3) : Rect S3x128x2048 := Rect.unit (s := S3x128x2048) ![kz.val, 0, 0] S1x128x2048.size (s2_inb kz)
abbrev r2To (d : Dev nD) : Rect S4x128x2048 := Rect.unit (s := S4x128x2048) (k0_off10 d) S1x128x2048.size (k0_off10_inb d)
abbrev r2Own (d : Dev nD) : Rect S4x128x2048 := Rect.unit (s := S4x128x2048) (k0_off11 d) S1x128x2048.size (k0_off11_inb d)
abbrev r2From (d : Dev nD) (kz : Fin 3) : Rect S4x128x2048 := Rect.unit (s := S4x128x2048) (k0_off13 d (w3 kz)) S1x128x2048.size (k0_off13_inb d kz)
abbrev r2All : Rect S4x128x2048 := Rect.unit (s := S4x128x2048) ![0, 0, 0] S4x128x2048.size inb_S4x128x2048_S4x128x2048_0_0_0

theorem s1R_words : ∀ (kp : Fin 3) (zi : Fin 4), (s1R kp zi).WholeWords (EltTy.packing .bf16) := by decide
theorem s1R_packed : ∀ (kp : Fin 3) (zi : Fin 4), (s1R kp zi).PackedRows (EltTy.packing .bf16) := by decide
theorem s2R_words : ∀ kz : Fin 3, (s2R kz).WholeWords (EltTy.packing .bf16) := by decide
theorem s2R_packed : ∀ kz : Fin 3, (s2R kz).PackedRows (EltTy.packing .bf16) := by decide

/-! ## The ends of the transfers, as matrices -/

abbrev s1E (kp : Fin 3) (zi : Fin 4) : Memref sig .tc .vmem S128x2048 .bf16 := (s1M.slice (s1R kp zi) (fun _ => rfl)).squeeze S128x2048 squeezes_S1x1x128x2048_S128x2048
abbrev r1ToE (d : Dev nD) (zi : Fin 4) : Memref sig .tc .vmem S128x2048 .bf16 := (r1M.slice (r1To d zi) (fun _ => rfl)).squeeze S128x2048 squeezes_S1x1x128x2048_S128x2048
abbrev r1FromE (d : Dev nD) (zi : Fin 4) (kp : Fin 3) : Memref sig .tc .vmem S128x2048 .bf16 := (r1M.slice (r1From d zi kp) (fun _ => rfl)).squeeze S128x2048 squeezes_S1x1x128x2048_S128x2048
abbrev s2E (kz : Fin 3) : Memref sig .tc .vmem S128x2048 .bf16 := (s2M.slice (s2R kz) (fun _ => rfl)).squeeze S128x2048 squeezes_S1x128x2048_S128x2048
abbrev r2ToE (d : Dev nD) : Memref sig .tc .vmem S128x2048 .bf16 := (r2M.slice (r2To d) (fun _ => rfl)).squeeze S128x2048 squeezes_S1x128x2048_S128x2048
abbrev r2FromE (d : Dev nD) (kz : Fin 3) : Memref sig .tc .vmem S128x2048 .bf16 := (r2M.slice (r2From d kz) (fun _ => rfl)).squeeze S128x2048 squeezes_S1x128x2048_S128x2048

theorem s1E_words (kp : Fin 3) (zi : Fin 4) : (s1E kp zi).view.WordExact := ((Memref.isWhole_whole cc0_scratch0).wordExact_slice rfl _ (s1R_words kp zi)).reshape _ _
theorem r1ToE_words (d : Dev nD) (zi : Fin 4) : (r1ToE d zi).view.WordExact := ((Memref.isWhole_whole cc0_scratch1).wordExact_slice rfl _ (k0_off5_wordsbf16 d zi)).reshape _ _
theorem r1FromE_words (d : Dev nD) (zi : Fin 4) (kp : Fin 3) : (r1FromE d zi kp).view.WordExact := ((Memref.isWhole_whole cc0_scratch1).wordExact_slice rfl _ (k0_off7_wordsbf16 d zi kp)).reshape _ _
theorem s2E_words (kz : Fin 3) : (s2E kz).view.WordExact := ((Memref.isWhole_whole cc0_scratch2).wordExact_slice rfl _ (s2R_words kz)).reshape _ _
theorem r2ToE_words (d : Dev nD) : (r2ToE d).view.WordExact := ((Memref.isWhole_whole cc0_scratch3).wordExact_slice rfl _ (k0_off10_wordsbf16 d)).reshape _ _
theorem r2FromE_words (d : Dev nD) (kz : Fin 3) : (r2FromE d kz).view.WordExact := ((Memref.isWhole_whole cc0_scratch3).wordExact_slice rfl _ (k0_off13_wordsbf16 d kz)).reshape _ _

/-! ## The semaphores -/

abbrev barS : Sem sig := sig.barrier 0 rfl
abbrev s1Sem (kp : Fin 3) (zi : Fin 4) : DmaSem sig := ((cc0_scratch4.slice (Rect.unit (s := S3x4) ![kp.val, zi.val] S1x1.size (s1Sem_inb kp zi))).squeeze S_ squeezes_S1x1_S_).sem
abbrev r1ToSem (d : Dev nD) (zi : Fin 4) : DmaSem sig := ((cc0_scratch5.slice (Rect.unit (s := S4x4) (k0_off4 d (w1 zi)) S1x1.size (k0_off4_inb d zi))).squeeze S_ squeezes_S1x1_S_).sem
abbrev r1FromSem (d : Dev nD) (zi : Fin 4) (kp : Fin 3) : DmaSem sig := ((cc0_scratch5.slice (Rect.unit (s := S4x4) (k0_off6 d (w1 zi) (w2 kp)) S1x1.size (k0_off6_inb d zi kp))).squeeze S_ squeezes_S1x1_S_).sem
abbrev s2Sem (kz : Fin 3) : DmaSem sig := ((cc0_scratch6.slice (Rect.unit (s := S3) ![kz.val] S1.size (s2Sem_inb kz))).squeeze S_ squeezes_S1_S_).sem
abbrev r2ToSem (d : Dev nD) : DmaSem sig := ((cc0_scratch7.slice (Rect.unit (s := S4) (k0_off9 d) S1.size (k0_off9_inb d))).squeeze S_ squeezes_S1_S_).sem
abbrev r2FromSem (d : Dev nD) (kz : Fin 3) : DmaSem sig := ((cc0_scratch7.slice (Rect.unit (s := S4) (k0_off12 d (w3 kz)) S1.size (k0_off12_inb d kz))).squeeze S_ squeezes_S1_S_).sem

/-! ## The devices addressed -/

/-- the partners whose barrier semaphore a device signals, in the order it does: three in its plane, three across; -/
def sigDev (d : Dev nD) : Fin 6 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
/-- where a stage-one transfer goes; -/
def dev1 (d : Dev nD) : Fin 4 → Fin 3 → Dev nD
  | 0, 0 => ⟨k0_dev7 d, k0_dev7_lt d⟩ | 0, 1 => ⟨k0_dev8 d, k0_dev8_lt d⟩ | 0, 2 => ⟨k0_dev9 d, k0_dev9_lt d⟩
  | 1, 0 => ⟨k0_dev10 d, k0_dev10_lt d⟩ | 1, 1 => ⟨k0_dev11 d, k0_dev11_lt d⟩ | 1, 2 => ⟨k0_dev12 d, k0_dev12_lt d⟩
  | 2, 0 => ⟨k0_dev13 d, k0_dev13_lt d⟩ | 2, 1 => ⟨k0_dev14 d, k0_dev14_lt d⟩ | 2, 2 => ⟨k0_dev15 d, k0_dev15_lt d⟩
  | 3, 0 => ⟨k0_dev16 d, k0_dev16_lt d⟩ | 3, 1 => ⟨k0_dev17 d, k0_dev17_lt d⟩ | 3, 2 => ⟨k0_dev18 d, k0_dev18_lt d⟩
/-- where a stage-two transfer goes. -/
def dev2 (d : Dev nD) : Fin 3 → Dev nD
  | 0 => ⟨k0_dev19 d, k0_dev19_lt d⟩ | 1 => ⟨k0_dev20 d, k0_dev20_lt d⟩ | 2 => ⟨k0_dev21 d, k0_dev21_lt d⟩

/-! ## The steps -/

abbrev P : Type → Type 1 := Prog (TpuEff nD τ sig (Elt F) Λ₀ .tc)

/-- One signal of the entry handshake. -/
def sigStep (d : Dev nD) (k : Fin 6) : P (F := F) PUnit :=
  semSignalWord (sigDev d k) barS 1#32
/-- The handshake: six signals, then a wait for six. -/
def handshake (d : Dev nD) : P (F := F) PUnit := do
  sigStep d 0; sigStep d 1; sigStep d 2; sigStep d 3; sigStep d 4; sigStep d 5
  semWaitWord barS 6#32
/-- The device's own product of a plane, into its landing slot. -/
def ownStep (d : Dev nD) (zi : Fin 4) : P (F := F) PUnit := do
  let a : Vec F S128x1024 .f32 ← Prog.lift (.load aM (aOwn d zi).toLoadRect (View.loadsAt_vmem h_S128x1024))
  let b : Vec F S1024x2048 .f32 ← Prog.lift (.load bM bAll.toLoadRect (View.loadsAt_vmem h_S1024x2048))
  let _ : Vec F S1x1x128x2048 .bf16 ← Prog.lift (.load r1M (r1Own d zi).toLoadRect (View.loadsAt_vmem h_S1x1x128x2048))
  Prog.lift (.store r1M (r1Own d zi) (k0_pay1 a b) Finset.univ (View.stores_vmem h_S1x1x128x2048 ((Memref.isWhole_whole cc0_scratch1).storeExact_slice rfl _ (k0_off2_packedbf16 d zi)) (fun _ => rfl)) (.inl rfl))
/-- A product for another device of the plane, sent to it. -/
def sendStep (d : Dev nD) (zi : Fin 4) (kp : Fin 3) : P (F := F) PUnit := do
  let a : Vec F S128x1024 .f32 ← Prog.lift (.load aM (aTo d zi kp).toLoadRect (View.loadsAt_vmem h_S128x1024))
  let b : Vec F S1024x2048 .f32 ← Prog.lift (.load bM bAll.toLoadRect (View.loadsAt_vmem h_S1024x2048))
  let _ : Vec F S1x1x128x2048 .bf16 ← Prog.lift (.load s1M (s1R kp zi).toLoadRect (View.loadsAt_vmem h_S1x1x128x2048))
  Prog.lift (.store s1M (s1R kp zi) (k0_pay1 a b) Finset.univ (View.stores_vmem h_S1x1x128x2048 ((Memref.isWhole_whole cc0_scratch0).storeExact_slice rfl _ (s1R_packed kp zi)) (fun _ => rfl)) (.inl rfl))
  Prog.lift (.enqueueDma (s1E kp zi) (.remote (Dev.tc (dev1 d zi kp)) (r1ToE d zi) (.dma (s1Sem kp zi))) (.dma (r1ToSem d zi)) (s1E_words kp zi) (r1ToE_words d zi) ⟨⟨rfl, Or.inl rfl⟩, trivial⟩)
/-- One plane of stage one. -/
def planeStep (d : Dev nD) (zi : Fin 4) : P (F := F) PUnit := do
  ownStep d zi; sendStep d zi 0; sendStep d zi 1; sendStep d zi 2
/-- The wait for one arrival of stage one. -/
def recv1Step (d : Dev nD) (zi : Fin 4) (kp : Fin 3) : P (F := F) PUnit :=
  Prog.lift (.waitDma2 (r1FromSem d zi kp) (s1E kp zi) (r1FromE d zi kp) (s1E_words kp zi) (r1FromE_words d zi kp))
/-- One plane's arrivals, summed and sent across. -/
def crossStep (d : Dev nD) (kz : Fin 3) : P (F := F) PUnit := do
  recv1Step d kz.castSucc 0; recv1Step d kz.castSucc 1; recv1Step d kz.castSucc 2
  let v : Vec F S1x4x128x2048 .bf16 ← Prog.lift (.load r1M (r1Row d kz.castSucc).toLoadRect (View.loadsAt_vmem h_S1x4x128x2048))
  let _ : Vec F S1x128x2048 .bf16 ← Prog.lift (.load s2M (s2R kz).toLoadRect (View.loadsAt_vmem h_S1x128x2048))
  Prog.lift (.store s2M (s2R kz) (k0_pay19 v) Finset.univ (View.stores_vmem h_S1x128x2048 ((Memref.isWhole_whole cc0_scratch2).storeExact_slice rfl _ (s2R_packed kz)) (fun _ => rfl)) (.inl rfl))
  Prog.lift (.enqueueDma (s2E kz) (.remote (Dev.tc (dev2 d kz)) (r2ToE d) (.dma (s2Sem kz))) (.dma (r2ToSem d)) (s2E_words kz) (r2ToE_words d) ⟨⟨rfl, Or.inl rfl⟩, trivial⟩)
/-- The device's own plane's arrivals, summed into its own landing slot of stage two. -/
def keepStep (d : Dev nD) : P (F := F) PUnit := do
  recv1Step d 3 0; recv1Step d 3 1; recv1Step d 3 2
  let v : Vec F S1x4x128x2048 .bf16 ← Prog.lift (.load r1M (r1Row d 3).toLoadRect (View.loadsAt_vmem h_S1x4x128x2048))
  let _ : Vec F S1x128x2048 .bf16 ← Prog.lift (.load r2M (r2Own d).toLoadRect (View.loadsAt_vmem h_S1x128x2048))
  Prog.lift (.store r2M (r2Own d) (k0_pay19 v) Finset.univ (View.stores_vmem h_S1x128x2048 ((Memref.isWhole_whole cc0_scratch3).storeExact_slice rfl _ (k0_off11_packedbf16 d)) (fun _ => rfl)) (.inl rfl))
/-- The wait for one arrival of stage two; -/
def recv2Step (d : Dev nD) (kz : Fin 3) : P (F := F) PUnit :=
  Prog.lift (.waitDma2 (r2FromSem d kz) (s2E 0) (r2FromE d kz) (s2E_words 0) (r2FromE_words d kz))
/-- for a stage-one transfer of its own to have left; -/
def left1Step (d : Dev nD) (zi : Fin 4) (kp : Fin 3) : P (F := F) PUnit :=
  Prog.lift (.waitDma2 (s1Sem kp zi) (r1ToE d zi) (s1E kp zi) (r1ToE_words d zi) (s1E_words kp zi))
def left1Plane (d : Dev nD) (zi : Fin 4) : P (F := F) PUnit := do
  left1Step d zi 0; left1Step d zi 1; left1Step d zi 2
/-- for a stage-two one. -/
def left2Step (d : Dev nD) (kz : Fin 3) : P (F := F) PUnit :=
  Prog.lift (.waitDma2 (s2Sem kz) (r2ToE d) (s2E kz) (r2ToE_words d) (s2E_words kz))
/-- The result. -/
def outStep : P (F := F) PUnit := do
  let v : Vec F S4x128x2048 .bf16 ← Prog.lift (.load r2M r2All.toLoadRect (View.loadsAt_vmem h_S4x128x2048))
  let _ : Vec F S128x2048 .f32 ← Prog.lift (.load oM oAll.toLoadRect (View.loadsAt_vmem h_S128x2048))
  Prog.lift (.store oM oAll (k0_pay24 v) Finset.univ (View.stores_vmem_bits_univ h_S128x2048 rfl) (.inl rfl))

/-- The whole body on device `d`. -/
def plan (d : Dev nD) : P (F := F) PUnit := do
  handshake d
  planeStep d 0; planeStep d 1; planeStep d 2; planeStep d 3
  crossStep d 0; crossStep d 1; crossStep d 2
  keepStep d
  recv2Step d 0; recv2Step d 1; recv2Step d 2
  left1Plane d 0; left1Plane d 1; left1Plane d 2; left1Plane d 3
  left2Step d 0; left2Step d 1; left2Step d 2
  outStep

set_option maxRecDepth 65536 in
/-- The printed body is the plan. -/
theorem body_eq : cc0_body aM (Memref.isWhole_whole _) bM (Memref.isWhole_whole _) oM (Memref.isWhole_whole _)
      s1M (Memref.isWhole_whole _) r1M (Memref.isWhole_whole _) s2M (Memref.isWhole_whole _) r2M (Memref.isWhole_whole _)
      cc0_scratch4 cc0_scratch5 cc0_scratch6 cc0_scratch7
    = (do let d : Dev nD ← Prog.lift .deviceId; plan (F := F) d) := rfl

end Cert.Scatter

end
-- ==== Proof.Mesh.lean ====
/-
# `Mesh`: the sixteen devices as four planes of four, and the printed offsets in those coordinates

Device `d` is the device `co d` of the plane `pl d`. Every offset and every device number the body computes is a closed
form in `pl d`, `co d` and the loop counters, the counters wrapping round four.
-/
module

public import proofs.«01_k».proof.Proof.Plan

@[expose] public section

set_option maxRecDepth 16384

noncomputable section

namespace Cert.Scatter

open Cert.KernelIdeal Cert.KernelIdeal.Gen
open Idealize.ShloMosaic Idealize.SL.Sem

variable {F : FTy → Type} [FloatOps F]

/-- the plane of a device; -/
abbrev pl (d : Dev nD) : Fin 4 := ⟨d.val / 4, by have : d.val < 16 := d.isLt; omega⟩
/-- its place in the plane; -/
abbrev co (d : Dev nD) : Fin 4 := ⟨d.val % 4, by omega⟩
/-- the device of a plane and a place. -/
abbrev dv (z c : Fin 4) : Dev nD := ⟨4 * z.val + c.val, by show _ < 16; omega⟩

theorem dv_pl_co : ∀ d : Dev nD, dv (pl d) (co d) = d := by decide
theorem pl_dv : ∀ z c : Fin 4, pl (dv z c) = z := by decide
theorem co_dv : ∀ z c : Fin 4, co (dv z c) = c := by decide

/-- The counter `k` steps on from `z`, and round: the other three, then itself. -/
abbrev on (z : Fin 4) (k : Fin 4) : Fin 4 := z + 1 + k
/-- the other three only. -/
abbrev on3 (z : Fin 4) (k : Fin 3) : Fin 4 := z + 1 + k.castSucc

/-- The row block a product is for: plane `p`, place `q`. -/
abbrev blk (p q : Fin 4) : Nat := (4 * p.val + q.val) * 128

theorem aOwn_off : ∀ (d : Dev nD) (zi : Fin 4), k0_off1 d (w1 zi) = ![blk (on (pl d) zi) (co d), 0] := by decide +kernel
theorem r1Own_off : ∀ (d : Dev nD) (zi : Fin 4), k0_off2 d (w1 zi) = ![(on (pl d) zi).val, (co d).val, 0, 0] := by decide +kernel
theorem aTo_off : ∀ (d : Dev nD) (zi : Fin 4) (kp : Fin 3), k0_off3 d (w1 zi) (w2 kp) = ![blk (on (pl d) zi) (on3 (co d) kp), 0] := by decide +kernel
theorem r1ToSem_off : ∀ (d : Dev nD) (zi : Fin 4), k0_off4 d (w1 zi) = ![(on (pl d) zi).val, (co d).val] := by decide +kernel
theorem r1To_off : ∀ (d : Dev nD) (zi : Fin 4), k0_off5 d (w1 zi) = ![(on (pl d) zi).val, (co d).val, 0, 0] := by decide +kernel
theorem r1FromSem_off : ∀ (d : Dev nD) (zi : Fin 4) (kp : Fin 3), k0_off6 d (w1 zi) (w2 kp) = ![(on (pl d) zi).val, (on3 (co d) kp).val] := by decide +kernel
theorem r1From_off : ∀ (d : Dev nD) (zi : Fin 4) (kp : Fin 3), k0_off7 d (w1 zi) (w2 kp) = ![(on (pl d) zi).val, (on3 (co d) kp).val, 0, 0] := by decide +kernel
theorem r1Row_off : ∀ (d : Dev nD) (zi : Fin 4), k0_off8 d (w1 zi) = ![(on (pl d) zi).val, 0, 0, 0] := by decide +kernel
theorem r2ToSem_off : ∀ d : Dev nD, k0_off9 d = ![(pl d).val] := by decide +kernel
theorem r2To_off : ∀ d : Dev nD, k0_off10 d = ![(pl d).val, 0, 0] := by decide +kernel
theorem r2Own_off : ∀ d : Dev nD, k0_off11 d = ![(pl d).val, 0, 0] := by decide +kernel
theorem r2FromSem_off : ∀ (d : Dev nD) (kz : Fin 3), k0_off12 d (w3 kz) = ![(on3 (pl d) kz).val] := by decide +kernel
theorem r2From_off : ∀ (d : Dev nD) (kz : Fin 3), k0_off13 d (w3 kz) = ![(on3 (pl d) kz).val, 0, 0] := by decide +kernel

theorem dev1_eq : ∀ (d : Dev nD) (zi : Fin 4) (kp : Fin 3), dev1 d zi kp = dv (pl d) (on3 (co d) kp) := by decide +kernel
theorem dev2_eq : ∀ (d : Dev nD) (kz : Fin 3), dev2 d kz = dv (on3 (pl d) kz) (co d) := by decide +kernel
/-- The partners signalled: first the three of the plane, then the three across. -/
def sigTo (d : Dev nD) : Fin 6 → Dev nD
  | 0 => dv (pl d) (on3 (co d) 0) | 1 => dv (pl d) (on3 (co d) 1) | 2 => dv (pl d) (on3 (co d) 2)
  | 3 => dv (on3 (pl d) 0) (co d) | 4 => dv (on3 (pl d) 1) (co d) | 5 => dv (on3 (pl d) 2) (co d)
theorem sigDev_eq : ∀ (d : Dev nD) (k : Fin 6), sigDev d k = sigTo d k := by decide +kernel

/-! ## The slots and cells at those coordinates -/

theorem r1_inb : ∀ (p q : Fin 4), ∀ a, (![p.val, q.val, 0, 0] : Fin 4 → Nat) a + S1x1x128x2048.size a ≤ S4x4x128x2048.size a := by decide
theorem r1Sem_inb : ∀ (p q : Fin 4), ∀ a, (![p.val, q.val] : Fin 2 → Nat) a + S1x1.size a ≤ S4x4.size a := by decide
theorem row_inb : ∀ (p : Fin 4), ∀ a, (![p.val, 0, 0, 0] : Fin 4 → Nat) a + S1x4x128x2048.size a ≤ S4x4x128x2048.size a := by decide
theorem r2_inb : ∀ (p : Fin 4), ∀ a, (![p.val, 0, 0] : Fin 3 → Nat) a + S1x128x2048.size a ≤ S4x128x2048.size a := by decide
theorem r2Sem_inb : ∀ (p : Fin 4), ∀ a, (![p.val] : Fin 1 → Nat) a + S1.size a ≤ S4.size a := by decide
theorem a_inb : ∀ (p q : Fin 4), ∀ a, (![blk p q, 0] : Fin 2 → Nat) a + S128x1024.size a ≤ S2048x1024.size a := by decide

abbrev aR (p q : Fin 4) : Rect S2048x1024 := Rect.unit (s := S2048x1024) ![blk p q, 0] S128x1024.size (a_inb p q)
abbrev r1R (p q : Fin 4) : Rect S4x4x128x2048 := Rect.unit (s := S4x4x128x2048) ![p.val, q.val, 0, 0] S1x1x128x2048.size (r1_inb p q)
abbrev rowR (p : Fin 4) : Rect S4x4x128x2048 := Rect.unit (s := S4x4x128x2048) ![p.val, 0, 0, 0] S1x4x128x2048.size (row_inb p)
abbrev r2R (p : Fin 4) : Rect S4x128x2048 := Rect.unit (s := S4x128x2048) ![p.val, 0, 0] S1x128x2048.size (r2_inb p)
theorem r1R_words : ∀ (p q : Fin 4), (r1R p q).WholeWords (EltTy.packing .bf16) := by decide
theorem r1R_packed : ∀ (p q : Fin 4), (r1R p q).PackedRows (EltTy.packing .bf16) := by decide
theorem r2R_words : ∀ p : Fin 4, (r2R p).WholeWords (EltTy.packing .bf16) := by decide
theorem r2R_packed : ∀ p : Fin 4, (r2R p).PackedRows (EltTy.packing .bf16) := by decide
abbrev r1E (p q : Fin 4) : Memref sig .tc .vmem S128x2048 .bf16 := (r1M.slice (r1R p q) (fun _ => rfl)).squeeze S128x2048 squeezes_S1x1x128x2048_S128x2048
abbrev r2E (p : Fin 4) : Memref sig .tc .vmem S128x2048 .bf16 := (r2M.slice (r2R p) (fun _ => rfl)).squeeze S128x2048 squeezes_S1x128x2048_S128x2048
theorem r1E_words (p q : Fin 4) : (r1E p q).view.WordExact := ((Memref.isWhole_whole cc0_scratch1).wordExact_slice rfl _ (r1R_words p q)).reshape _ _
theorem r2E_words (p : Fin 4) : (r2E p).view.WordExact := ((Memref.isWhole_whole cc0_scratch3).wordExact_slice rfl _ (r2R_words p)).reshape _ _
abbrev r1Sem (p q : Fin 4) : DmaSem sig := ((cc0_scratch5.slice (Rect.unit (s := S4x4) ![p.val, q.val] S1x1.size (r1Sem_inb p q))).squeeze S_ squeezes_S1x1_S_).sem
abbrev r2Sem (p : Fin 4) : DmaSem sig := ((cc0_scratch7.slice (Rect.unit (s := S4) ![p.val] S1.size (r2Sem_inb p))).squeeze S_ squeezes_S1_S_).sem

/-! ## The steps at those coordinates -/

/-- A product for the block `(p, q)` stored through the rectangle `r1R p q'` of the landing buffer. -/
def ownAt (p q : Fin 4) : P (F := F) PUnit := do
  let a : Vec F S128x1024 .f32 ← Prog.lift (.load aM (aR p q).toLoadRect (View.loadsAt_vmem h_S128x1024))
  let b : Vec F S1024x2048 .f32 ← Prog.lift (.load bM bAll.toLoadRect (View.loadsAt_vmem h_S1024x2048))
  let _ : Vec F S1x1x128x2048 .bf16 ← Prog.lift (.load r1M (r1R p q).toLoadRect (View.loadsAt_vmem h_S1x1x128x2048))
  Prog.lift (.store r1M (r1R p q) (k0_pay1 a b) Finset.univ (View.stores_vmem h_S1x1x128x2048 ((Memref.isWhole_whole cc0_scratch1).storeExact_slice rfl _ (r1R_packed p q)) (fun _ => rfl)) (.inl rfl))
def sendAt (n : Dev nD) (p q c : Fin 4) (zi : Fin 4) (kp : Fin 3) : P (F := F) PUnit := do
  let a : Vec F S128x1024 .f32 ← Prog.lift (.load aM (aR p q).toLoadRect (View.loadsAt_vmem h_S128x1024))
  let b : Vec F S1024x2048 .f32 ← Prog.lift (.load bM bAll.toLoadRect (View.loadsAt_vmem h_S1024x2048))
  let _ : Vec F S1x1x128x2048 .bf16 ← Prog.lift (.load s1M (s1R kp zi).toLoadRect (View.loadsAt_vmem h_S1x1x128x2048))
  Prog.lift (.store s1M (s1R kp zi) (k0_pay1 a b) Finset.univ (View.stores_vmem h_S1x1x128x2048 ((Memref.isWhole_whole cc0_scratch0).storeExact_slice rfl _ (s1R_packed kp zi)) (fun _ => rfl)) (.inl rfl))
  Prog.lift (.enqueueDma (s1E kp zi) (.remote (Dev.tc n) (r1E p c) (.dma (s1Sem kp zi))) (.dma (r1Sem p c)) (s1E_words kp zi) (r1E_words p c) ⟨⟨rfl, Or.inl rfl⟩, trivial⟩)
def recv1At (p q : Fin 4) (zi : Fin 4) (kp : Fin 3) : P (F := F) PUnit :=
  Prog.lift (.waitDma2 (r1Sem p q) (s1E kp zi) (r1E p q) (s1E_words kp zi) (r1E_words p q))
def sumAt (p : Fin 4) (kz : Fin 3) : P (F := F) PUnit := do
  let v : Vec F S1x4x128x2048 .bf16 ← Prog.lift (.load r1M (rowR p).toLoadRect (View.loadsAt_vmem h_S1x4x128x2048))
  let _ : Vec F S1x128x2048 .bf16 ← Prog.lift (.load s2M (s2R kz).toLoadRect (View.loadsAt_vmem h_S1x128x2048))
  Prog.lift (.store s2M (s2R kz) (k0_pay19 v) Finset.univ (View.stores_vmem h_S1x128x2048 ((Memref.isWhole_whole cc0_scratch2).storeExact_slice rfl _ (s2R_packed kz)) (fun _ => rfl)) (.inl rfl))
def acrossAt (n : Dev nD) (z : Fin 4) (kz : Fin 3) : P (F := F) PUnit :=
  Prog.lift (.enqueueDma (s2E kz) (.remote (Dev.tc n) (r2E z) (.dma (s2Sem kz))) (.dma (r2Sem z)) (s2E_words kz) (r2E_words z) ⟨⟨rfl, Or.inl rfl⟩, trivial⟩)
def keepAt (z : Fin 4) : P (F := F) PUnit := do
  let v : Vec F S1x4x128x2048 .bf16 ← Prog.lift (.load r1M (rowR z).toLoadRect (View.loadsAt_vmem h_S1x4x128x2048))
  let _ : Vec F S1x128x2048 .bf16 ← Prog.lift (.load r2M (r2R z).toLoadRect (View.loadsAt_vmem h_S1x128x2048))
  Prog.lift (.store r2M (r2R z) (k0_pay19 v) Finset.univ (View.stores_vmem h_S1x128x2048 ((Memref.isWhole_whole cc0_scratch3).storeExact_slice rfl _ (r2R_packed z)) (fun _ => rfl)) (.inl rfl))
def recv2At (p : Fin 4) : P (F := F) PUnit :=
  Prog.lift (.waitDma2 (r2Sem p) (s2E 0) (r2E p) (s2E_words 0) (r2E_words p))
def left1At (p c : Fin 4) (zi : Fin 4) (kp : Fin 3) : P (F := F) PUnit :=
  Prog.lift (.waitDma2 (s1Sem kp zi) (r1E p c) (s1E kp zi) (r1E_words p c) (s1E_words kp zi))
def left2At (z : Fin 4) (kz : Fin 3) : P (F := F) PUnit :=
  Prog.lift (.waitDma2 (s2Sem kz) (r2E z) (s2E kz) (r2E_words z) (s2E_words kz))

/-! Each printed step is the step at the closed forms: an offset and its closed form are one offset, whatever evidence
either comes with. -/

theorem ownStep_eq (d : Dev nD) (zi : Fin 4) : ownStep (F := F) d zi = ownAt (on (pl d) zi) (co d) := by
  have key : ∀ (o : Fin 2 → Nat) (o' : Fin 4 → Nat) (h : ∀ a, o a + S128x1024.size a ≤ S2048x1024.size a)
      (h' : ∀ a, o' a + S1x1x128x2048.size a ≤ S4x4x128x2048.size a)
      (hp : (Rect.unit (s := S4x4x128x2048) o' S1x1x128x2048.size h').PackedRows (EltTy.packing .bf16)),
      o = ![blk (on (pl d) zi) (co d), 0] → o' = ![(on (pl d) zi).val, (co d).val, 0, 0] →
      (do
        let a : Vec F S128x1024 .f32 ← Prog.lift (.load aM (Rect.unit (s := S2048x1024) o S128x1024.size h).toLoadRect (View.loadsAt_vmem h_S128x1024))
        let b : Vec F S1024x2048 .f32 ← Prog.lift (.load bM bAll.toLoadRect (View.loadsAt_vmem h_S1024x2048))
        let _ : Vec F S1x1x128x2048 .bf16 ← Prog.lift (.load r1M (Rect.unit (s := S4x4x128x2048) o' S1x1x128x2048.size h').toLoadRect (View.loadsAt_vmem h_S1x1x128x2048))
        Prog.lift (.store r1M (Rect.unit (s := S4x4x128x2048) o' S1x1x128x2048.size h') (k0_pay1 a b) Finset.univ (View.stores_vmem h_S1x1x128x2048 ((Memref.isWhole_whole cc0_scratch1).storeExact_slice rfl _ hp) (fun _ => rfl)) (.inl rfl)) : P (F := F) PUnit)
        = ownAt (on (pl d) zi) (co d) := by
    intro o o' h h' hp e e'; subst e; subst e'; rfl
  exact key _ _ _ _ (k0_off2_packedbf16 d zi) (aOwn_off d zi) (r1Own_off d zi)

theorem sendStep_eq (d : Dev nD) (zi : Fin 4) (kp : Fin 3) :
    sendStep (F := F) d zi kp = sendAt (dv (pl d) (on3 (co d) kp)) (on (pl d) zi) (on3 (co d) kp) (co d) zi kp := by
  have key : ∀ (n : Dev nD) (o : Fin 2 → Nat) (o' : Fin 4 → Nat) (o'' : Fin 2 → Nat) (h : ∀ a, o a + S128x1024.size a ≤ S2048x1024.size a)
      (h' : ∀ a, o' a + S1x1x128x2048.size a ≤ S4x4x128x2048.size a) (h'' : ∀ a, o'' a + S1x1.size a ≤ S4x4.size a)
      (hw : (((r1M.slice (Rect.unit (s := S4x4x128x2048) o' S1x1x128x2048.size h') (fun _ => rfl)).squeeze S128x2048 squeezes_S1x1x128x2048_S128x2048) : Memref sig .tc .vmem S128x2048 .bf16).view.WordExact),
      n = dv (pl d) (on3 (co d) kp) → o = ![blk (on (pl d) zi) (on3 (co d) kp), 0] → o' = ![(on (pl d) zi).val, (co d).val, 0, 0] →
      o'' = ![(on (pl d) zi).val, (co d).val] →
      (do
        let a : Vec F S128x1024 .f32 ← Prog.lift (.load aM (Rect.unit (s := S2048x1024) o S128x1024.size h).toLoadRect (View.loadsAt_vmem h_S128x1024))
        let b : Vec F S1024x2048 .f32 ← Prog.lift (.load bM bAll.toLoadRect (View.loadsAt_vmem h_S1024x2048))
        let _ : Vec F S1x1x128x2048 .bf16 ← Prog.lift (.load s1M (s1R kp zi).toLoadRect (View.loadsAt_vmem h_S1x1x128x2048))
        Prog.lift (.store s1M (s1R kp zi) (k0_pay1 a b) Finset.univ (View.stores_vmem h_S1x1x128x2048 ((Memref.isWhole_whole cc0_scratch0).storeExact_slice rfl _ (s1R_packed kp zi)) (fun _ => rfl)) (.inl rfl))
        Prog.lift (.enqueueDma (s1E kp zi) (.remote (Dev.tc n) ((r1M.slice (Rect.unit (s := S4x4x128x2048) o' S1x1x128x2048.size h') (fun _ => rfl)).squeeze S128x2048 squeezes_S1x1x128x2048_S128x2048) (.dma (s1Sem kp zi))) (.dma ((cc0_scratch5.slice (Rect.unit (s := S4x4) o'' S1x1.size h'')).squeeze S_ squeezes_S1x1_S_).sem) (s1E_words kp zi) hw ⟨⟨rfl, Or.inl rfl⟩, trivial⟩) : P (F := F) PUnit)
        = sendAt (dv (pl d) (on3 (co d) kp)) (on (pl d) zi) (on3 (co d) kp) (co d) zi kp := by
    intro n o o' o'' h h' h'' hw en e e' e''; subst en; subst e; subst e'; subst e''; rfl
  exact key _ _ _ _ _ _ _ (r1ToE_words d zi) (dev1_eq d zi kp) (aTo_off d zi kp) (r1To_off d zi) (r1ToSem_off d zi)

theorem recv1Step_eq (d : Dev nD) (zi : Fin 4) (kp : Fin 3) : recv1Step (F := F) d zi kp = recv1At (on (pl d) zi) (on3 (co d) kp) zi kp := by
  have key : ∀ (o' : Fin 4 → Nat) (o'' : Fin 2 → Nat)
      (h' : ∀ a, o' a + S1x1x128x2048.size a ≤ S4x4x128x2048.size a) (h'' : ∀ a, o'' a + S1x1.size a ≤ S4x4.size a)
      (hw : (((r1M.slice (Rect.unit (s := S4x4x128x2048) o' S1x1x128x2048.size h') (fun _ => rfl)).squeeze S128x2048 squeezes_S1x1x128x2048_S128x2048) : Memref sig .tc .vmem S128x2048 .bf16).view.WordExact),
      o' = ![(on (pl d) zi).val, (on3 (co d) kp).val, 0, 0] → o'' = ![(on (pl d) zi).val, (on3 (co d) kp).val] →
      (Prog.lift (.waitDma2 ((cc0_scratch5.slice (Rect.unit (s := S4x4) o'' S1x1.size h'')).squeeze S_ squeezes_S1x1_S_).sem (s1E kp zi) ((r1M.slice (Rect.unit (s := S4x4x128x2048) o' S1x1x128x2048.size h') (fun _ => rfl)).squeeze S128x2048 squeezes_S1x1x128x2048_S128x2048) (s1E_words kp zi) hw) : P (F := F) PUnit)
        = recv1At (on (pl d) zi) (on3 (co d) kp) zi kp := by
    intro o' o'' h' h'' hw e' e''; subst e'; subst e''; rfl
  exact key _ _ _ _ (r1FromE_words d zi kp) (r1From_off d zi kp) (r1FromSem_off d zi kp)

theorem left1Step_eq (d : Dev nD) (zi : Fin 4) (kp : Fin 3) : left1Step (F := F) d zi kp = left1At (on (pl d) zi) (co d) zi kp := by
  have key : ∀ (o' : Fin 4 → Nat) (h' : ∀ a, o' a + S1x1x128x2048.size a ≤ S4x4x128x2048.size a)
      (hw : (((r1M.slice (Rect.unit (s := S4x4x128x2048) o' S1x1x128x2048.size h') (fun _ => rfl)).squeeze S128x2048 squeezes_S1x1x128x2048_S128x2048) : Memref sig .tc .vmem S128x2048 .bf16).view.WordExact),
      o' = ![(on (pl d) zi).val, (co d).val, 0, 0] →
      (Prog.lift (.waitDma2 (s1Sem kp zi) ((r1M.slice (Rect.unit (s := S4x4x128x2048) o' S1x1x128x2048.size h') (fun _ => rfl)).squeeze S128x2048 squeezes_S1x1x128x2048_S128x2048) (s1E kp zi) hw (s1E_words kp zi)) : P (F := F) PUnit)
        = left1At (on (pl d) zi) (co d) zi kp := by
    intro o' h' hw e'; subst e'; rfl
  exact key _ _ (r1ToE_words d zi) (r1To_off d zi)

theorem recv2Step_eq (d : Dev nD) (kz : Fin 3) : recv2Step (F := F) d kz = recv2At (on3 (pl d) kz) := by
  have key : ∀ (o' : Fin 3 → Nat) (o'' : Fin 1 → Nat)
      (h' : ∀ a, o' a + S1x128x2048.size a ≤ S4x128x2048.size a) (h'' : ∀ a, o'' a + S1.size a ≤ S4.size a)
      (hw : (((r2M.slice (Rect.unit (s := S4x128x2048) o' S1x128x2048.size h') (fun _ => rfl)).squeeze S128x2048 squeezes_S1x128x2048_S128x2048) : Memref sig .tc .vmem S128x2048 .bf16).view.WordExact),
      o' = ![(on3 (pl d) kz).val, 0, 0] → o'' = ![(on3 (pl d) kz).val] →
      (Prog.lift (.waitDma2 ((cc0_scratch7.slice (Rect.unit (s := S4) o'' S1.size h'')).squeeze S_ squeezes_S1_S_).sem (s2E 0) ((r2M.slice (Rect.unit (s := S4x128x2048) o' S1x128x2048.size h') (fun _ => rfl)).squeeze S128x2048 squeezes_S1x128x2048_S128x2048) (s2E_words 0) hw) : P (F := F) PUnit)
        = recv2At (on3 (pl d) kz) := by
    intro o' o'' h' h'' hw e' e''; subst e'; subst e''; rfl
  exact key _ _ _ _ (r2FromE_words d kz) (r2From_off d kz) (r2FromSem_off d kz)

theorem left2Step_eq (d : Dev nD) (kz : Fin 3) : left2Step (F := F) d kz = left2At (pl d) kz := by
  have key : ∀ (o' : Fin 3 → Nat) (h' : ∀ a, o' a + S1x128x2048.size a ≤ S4x128x2048.size a)
      (hw : (((r2M.slice (Rect.unit (s := S4x128x2048) o' S1x128x2048.size h') (fun _ => rfl)).squeeze S128x2048 squeezes_S1x128x2048_S128x2048) : Memref sig .tc .vmem S128x2048 .bf16).view.WordExact),
      o' = ![(pl d).val, 0, 0] →
      (Prog.lift (.waitDma2 (s2Sem kz) ((r2M.slice (Rect.unit (s := S4x128x2048) o' S1x128x2048.size h') (fun _ => rfl)).squeeze S128x2048 squeezes_S1x128x2048_S128x2048) (s2E kz) hw (s2E_words kz)) : P (F := F) PUnit)
        = left2At (pl d) kz := by
    intro o' h' hw e'; subst e'; rfl
  exact key _ _ (r2ToE_words d) (r2To_off d)

theorem crossStep_eq (d : Dev nD) (kz : Fin 3) : crossStep (F := F) d kz = (do
    recv1Step d kz.castSucc 0; recv1Step d kz.castSucc 1; recv1Step d kz.castSucc 2
    sumAt (on3 (pl d) kz) kz; acrossAt (dv (on3 (pl d) kz) (co d)) (pl d) kz) := by
  have key : ∀ (n : Dev nD) (o : Fin 4 → Nat) (o' : Fin 3 → Nat) (o'' : Fin 1 → Nat)
      (h : ∀ a, o a + S1x4x128x2048.size a ≤ S4x4x128x2048.size a)
      (h' : ∀ a, o' a + S1x128x2048.size a ≤ S4x128x2048.size a) (h'' : ∀ a, o'' a + S1.size a ≤ S4.size a)
      (hw : (((r2M.slice (Rect.unit (s := S4x128x2048) o' S1x128x2048.size h') (fun _ => rfl)).squeeze S128x2048 squeezes_S1x128x2048_S128x2048) : Memref sig .tc .vmem S128x2048 .bf16).view.WordExact),
      n = dv (on3 (pl d) kz) (co d) → o = ![(on3 (pl d) kz).val, 0, 0, 0] → o' = ![(pl d).val, 0, 0] → o'' = ![(pl d).val] →
      (do
        recv1Step d kz.castSucc 0; recv1Step d kz.castSucc 1; recv1Step d kz.castSucc 2
        let v : Vec F S1x4x128x2048 .bf16 ← Prog.lift (.load r1M (Rect.unit (s := S4x4x128x2048) o S1x4x128x2048.size h).toLoadRect (View.loadsAt_vmem h_S1x4x128x2048))
        let _ : Vec F S1x128x2048 .bf16 ← Prog.lift (.load s2M (s2R kz).toLoadRect (View.loadsAt_vmem h_S1x128x2048))
        Prog.lift (.store s2M (s2R kz) (k0_pay19 v) Finset.univ (View.stores_vmem h_S1x128x2048 ((Memref.isWhole_whole cc0_scratch2).storeExact_slice rfl _ (s2R_packed kz)) (fun _ => rfl)) (.inl rfl))
        Prog.lift (.enqueueDma (s2E kz) (.remote (Dev.tc n) ((r2M.slice (Rect.unit (s := S4x128x2048) o' S1x128x2048.size h') (fun _ => rfl)).squeeze S128x2048 squeezes_S1x128x2048_S128x2048) (.dma (s2Sem kz))) (.dma ((cc0_scratch7.slice (Rect.unit (s := S4) o'' S1.size h'')).squeeze S_ squeezes_S1_S_).sem) (s2E_words kz) hw ⟨⟨rfl, Or.inl rfl⟩, trivial⟩) : P (F := F) PUnit)
        = (do
          recv1Step d kz.castSucc 0; recv1Step d kz.castSucc 1; recv1Step d kz.castSucc 2
          sumAt (on3 (pl d) kz) kz; acrossAt (dv (on3 (pl d) kz) (co d)) (pl d) kz) := by
    intro n o o' o'' h h' h'' hw en e e' e''; subst en; subst e; subst e'; subst e''; rfl
  exact key _ _ _ _ _ _ _ (r2ToE_words d) (dev2_eq d kz) (r1Row_off d kz.castSucc) (r2To_off d) (r2ToSem_off d)

theorem on_three : ∀ z : Fin 4, on z 3 = z := by decide

theorem keepStep_eq (d : Dev nD) : keepStep (F := F) d = (do
    recv1Step d 3 0; recv1Step d 3 1; recv1Step d 3 2
    keepAt (pl d)) := by
  have key : ∀ (o : Fin 4 → Nat) (o' : Fin 3 → Nat)
      (h : ∀ a, o a + S1x4x128x2048.size a ≤ S4x4x128x2048.size a)
      (h' : ∀ a, o' a + S1x128x2048.size a ≤ S4x128x2048.size a)
      (hp : (Rect.unit (s := S4x128x2048) o' S1x128x2048.size h').PackedRows (EltTy.packing .bf16)),
      o = ![(pl d).val, 0, 0, 0] → o' = ![(pl d).val, 0, 0] →
      (do
        recv1Step d 3 0; recv1Step d 3 1; recv1Step d 3 2
        let v : Vec F S1x4x128x2048 .bf16 ← Prog.lift (.load r1M (Rect.unit (s := S4x4x128x2048) o S1x4x128x2048.size h).toLoadRect (View.loadsAt_vmem h_S1x4x128x2048))
        let _ : Vec F S1x128x2048 .bf16 ← Prog.lift (.load r2M (Rect.unit (s := S4x128x2048) o' S1x128x2048.size h').toLoadRect (View.loadsAt_vmem h_S1x128x2048))
        Prog.lift (.store r2M (Rect.unit (s := S4x128x2048) o' S1x128x2048.size h') (k0_pay19 v) Finset.univ (View.stores_vmem h_S1x128x2048 ((Memref.isWhole_whole cc0_scratch3).storeExact_slice rfl _ hp) (fun _ => rfl)) (.inl rfl)) : P (F := F) PUnit)
        = (do
          recv1Step d 3 0; recv1Step d 3 1; recv1Step d 3 2
          keepAt (pl d)) := by
    intro o o' h h' hp e e'; subst e; subst e'; rfl
  exact key _ _ _ _ (k0_off11_packedbf16 d) ((r1Row_off d 3).trans (by rw [on_three])) (r2Own_off d)

end Cert.Scatter

end
-- ==== Proof.Slots.lean ====
/-
# `Slots`: the contents every exchange buffer ends with, and the slots it is handed over by

Everything is stated for any float values and for any operands: `A d` and `B d` are what device `d` has staged.
-/
module

public import proofs.«01_k».proof.Proof.Mesh

@[expose] public section

set_option maxRecDepth 16384

noncomputable section

namespace Cert.Scatter

open Cert.KernelIdeal Cert.KernelIdeal.Gen
open Idealize.ShloMosaic Idealize.SL.Sem

variable {F : FTy → Type} [FloatOps F]

section Contents

variable (A : Dev nD → (cc0_stg0_0 : Ref sig .tc).ty.Contents (Elt F)) (B : Dev nD → (cc0_stg1_0 : Ref sig .tc).ty.Contents (Elt F))

/-- Device `d`'s product for the row block of plane `p`, place `q`. -/
def prod (d : Dev nD) (p q : Fin 4) : Vec F S1x1x128x2048 .bf16 :=
  k0_pay1 (aM.view.readAt (Elt F) (aR p q).toLoadRect (A d)) (bM.view.readAt (Elt F) bAll.toLoadRect (B d))

/-- An element's place inside its slot of stage one; -/
def in1 {n m : Nat} (i : (⟨4, ![n, m, 128, 2048]⟩ : Shape).Idx) : S1x1x128x2048.Idx := fun a => match a with
  | 0 => (0 : Fin 1) | 1 => (0 : Fin 1) | 2 => (i 2 : Fin 128) | 3 => (i 3 : Fin 2048)
/-- of stage two. -/
def in2 {n : Nat} (i : (⟨3, ![n, 128, 2048]⟩ : Shape).Idx) : S1x128x2048.Idx := fun a => match a with
  | 0 => (0 : Fin 1) | 1 => (i 1 : Fin 128) | 2 => (i 2 : Fin 2048)

/-- The sending buffer of stage one: slot `(kp, zi)` holds the product for the device `kp` places on, of the plane `zi`
    steps on. -/
def S1 (d : Dev nD) : (cc0_scratch0 : Ref sig .tc).ty.Contents (Elt F) := fun i : S3x4x128x2048.Idx =>
  prod A B d (on (pl d) (i 1 : Fin 4)) (on3 (co d) (i 0 : Fin 3)) (in1 i)
/-- The landing buffer of stage one: slot `(p, q)` holds the product of the plane's device `q` for this device's place in
    the plane `p`. -/
def R1 (d : Dev nD) : (cc0_scratch1 : Ref sig .tc).ty.Contents (Elt F) := fun i : S4x4x128x2048.Idx =>
  prod A B (dv (pl d) (i 1 : Fin 4)) (i 0 : Fin 4) (co d) (in1 i)
/-- The plane's products for this device's place in the plane `p`, summed. -/
def planeSum (d : Dev nD) (p : Fin 4) : Vec F S1x128x2048 .bf16 :=
  k0_pay19 (r1M.view.readAt (Elt F) (rowR p).toLoadRect (R1 A B d))
/-- The sending buffer of stage two: slot `kz` holds the sum for the plane `kz` steps on. -/
def S2 (d : Dev nD) : (cc0_scratch2 : Ref sig .tc).ty.Contents (Elt F) := fun i : S3x128x2048.Idx =>
  planeSum A B d (on3 (pl d) (i 0 : Fin 3)) (in2 i)
/-- The landing buffer of stage two: slot `p` holds the sum of the plane `p`, for this device. -/
def R2 (d : Dev nD) : (cc0_scratch3 : Ref sig .tc).ty.Contents (Elt F) := fun i : S4x128x2048.Idx =>
  planeSum A B (dv (i 0 : Fin 4) (co d)) (pl d) (in2 i)
/-- The result: the four planes' sums, summed. -/
def res (d : Dev nD) : (cc0_stg2_0 : Ref sig .tc).ty.Contents (Elt F) :=
  k0_pay24 (r2M.view.readAt (Elt F) r2All.toLoadRect (R2 A B d))

theorem in1_s1 (kp : Fin 3) (zi : Fin 4) (x : S1x1x128x2048.Idx) : in1 ((s1R kp zi).emb x : S3x4x128x2048.Idx) = x := by
  funext a
  match a with
  | 0 => exact Fin.ext (by have := (x 0).isLt; change (x 0).val < 1 at this; show 0 = (x 0).val; omega)
  | 1 => exact Fin.ext (by have := (x 1).isLt; change (x 1).val < 1 at this; show 0 = (x 1).val; omega)
  | 2 => exact Fin.ext (by show 0 + 1 * (x 2).val = (x 2).val; omega)
  | 3 => exact Fin.ext (by show 0 + 1 * (x 3).val = (x 3).val; omega)
theorem in1_r1 (p q : Fin 4) (x : S1x1x128x2048.Idx) : in1 ((r1R p q).emb x : S4x4x128x2048.Idx) = x := by
  funext a
  match a with
  | 0 => exact Fin.ext (by have := (x 0).isLt; change (x 0).val < 1 at this; show 0 = (x 0).val; omega)
  | 1 => exact Fin.ext (by have := (x 1).isLt; change (x 1).val < 1 at this; show 0 = (x 1).val; omega)
  | 2 => exact Fin.ext (by show 0 + 1 * (x 2).val = (x 2).val; omega)
  | 3 => exact Fin.ext (by show 0 + 1 * (x 3).val = (x 3).val; omega)
theorem in2_s2 (kz : Fin 3) (x : S1x128x2048.Idx) : in2 ((s2R kz).emb x : S3x128x2048.Idx) = x := by
  funext a
  match a with
  | 0 => exact Fin.ext (by have := (x 0).isLt; change (x 0).val < 1 at this; show 0 = (x 0).val; omega)
  | 1 => exact Fin.ext (by show 0 + 1 * (x 1).val = (x 1).val; omega)
  | 2 => exact Fin.ext (by show 0 + 1 * (x 2).val = (x 2).val; omega)
theorem in2_r2 (p : Fin 4) (x : S1x128x2048.Idx) : in2 ((r2R p).emb x : S4x128x2048.Idx) = x := by
  funext a
  match a with
  | 0 => exact Fin.ext (by have := (x 0).isLt; change (x 0).val < 1 at this; show 0 = (x 0).val; omega)
  | 1 => exact Fin.ext (by show 0 + 1 * (x 1).val = (x 1).val; omega)
  | 2 => exact Fin.ext (by show 0 + 1 * (x 2).val = (x 2).val; omega)

theorem S1_at (d : Dev nD) (kp : Fin 3) (zi : Fin 4) (x : S1x1x128x2048.Idx) :
    S1 A B d ((s1R kp zi).emb x) = prod A B d (on (pl d) zi) (on3 (co d) kp) x := by
  have h0 : ((s1R kp zi).emb x : S3x4x128x2048.Idx) 0 = kp :=
    Fin.ext (by have := (x 0).isLt; change (x 0).val < 1 at this; show kp.val + 1 * (x 0).val = kp.val; omega)
  have h1 : ((s1R kp zi).emb x : S3x4x128x2048.Idx) 1 = zi :=
    Fin.ext (by have := (x 1).isLt; change (x 1).val < 1 at this; show zi.val + 1 * (x 1).val = zi.val; omega)
  have key : ∀ (a : Fin 4) (b : Fin 3) (y : S1x1x128x2048.Idx), a = zi → b = kp → y = x →
      prod A B d (on (pl d) a) (on3 (co d) b) y = prod A B d (on (pl d) zi) (on3 (co d) kp) x := by
    rintro _ _ _ rfl rfl rfl; rfl
  exact key _ _ _ h1 h0 (in1_s1 kp zi x)
theorem R1_at (d : Dev nD) (p q : Fin 4) (x : S1x1x128x2048.Idx) :
    R1 A B d ((r1R p q).emb x) = prod A B (dv (pl d) q) p (co d) x := by
  have h0 : ((r1R p q).emb x : S4x4x128x2048.Idx) 0 = p :=
    Fin.ext (by have := (x 0).isLt; change (x 0).val < 1 at this; show p.val + 1 * (x 0).val = p.val; omega)
  have h1 : ((r1R p q).emb x : S4x4x128x2048.Idx) 1 = q :=
    Fin.ext (by have := (x 1).isLt; change (x 1).val < 1 at this; show q.val + 1 * (x 1).val = q.val; omega)
  have key : ∀ (a b : Fin 4) (y : S1x1x128x2048.Idx), a = p → b = q → y = x →
      prod A B (dv (pl d) b) a (co d) y = prod A B (dv (pl d) q) p (co d) x := by
    rintro _ _ _ rfl rfl rfl; rfl
  exact key _ _ _ h0 h1 (in1_r1 p q x)
theorem S2_at (d : Dev nD) (kz : Fin 3) (x : S1x128x2048.Idx) :
    S2 A B d ((s2R kz).emb x) = planeSum A B d (on3 (pl d) kz) x := by
  have h0 : ((s2R kz).emb x : S3x128x2048.Idx) 0 = kz :=
    Fin.ext (by have := (x 0).isLt; change (x 0).val < 1 at this; show kz.val + 1 * (x 0).val = kz.val; omega)
  have key : ∀ (b : Fin 3) (y : S1x128x2048.Idx), b = kz → y = x →
      planeSum A B d (on3 (pl d) b) y = planeSum A B d (on3 (pl d) kz) x := by
    rintro _ _ rfl rfl; rfl
  exact key _ _ h0 (in2_s2 kz x)
theorem R2_at (d : Dev nD) (p : Fin 4) (x : S1x128x2048.Idx) :
    R2 A B d ((r2R p).emb x) = planeSum A B (dv p (co d)) (pl d) x := by
  have h0 : ((r2R p).emb x : S4x128x2048.Idx) 0 = p :=
    Fin.ext (by have := (x 0).isLt; change (x 0).val < 1 at this; show p.val + 1 * (x 0).val = p.val; omega)
  have key : ∀ (b : Fin 4) (y : S1x128x2048.Idx), b = p → y = x →
      planeSum A B (dv b (co d)) (pl d) y = planeSum A B (dv p (co d)) (pl d) x := by
    rintro _ _ rfl rfl; rfl
  exact key _ _ h0 (in2_r2 p x)

/-! ## What a store and a transfer leave in a slot -/

theorem mem_emb {s : Shape} {r : Rect s} {i : s.Idx} (h : i ∈ r.set) : ∃ x, r.emb x = i := by
  rw [← Rect.map_emb_univ] at h
  obtain ⟨x, -, e⟩ := Finset.mem_map.mp h
  exact ⟨x, e⟩

theorem own_stored (d : Dev nD) (p : Fin 4) (f : (cc0_scratch1 : Ref sig .tc).ty.Contents (Elt F)) :
    ∀ i ∈ (r1R p (co d)).set, (r1M.access (r1R p (co d))).write (Elt F) f (prod A B d p (co d)) Finset.univ i = R1 A B d i := fun i hi => by
  obtain ⟨x, rfl⟩ := mem_emb hi
  rw [R1_at, dv_pl_co]
  exact View.write_emb_of_mem (v := r1M.access (r1R p (co d))) f (prod A B d p (co d)) (Finset.mem_univ x)
theorem to_stored (d : Dev nD) (kp : Fin 3) (zi : Fin 4) (f : (cc0_scratch0 : Ref sig .tc).ty.Contents (Elt F)) :
    ∀ i ∈ (s1R kp zi).set, (s1M.access (s1R kp zi)).write (Elt F) f (prod A B d (on (pl d) zi) (on3 (co d) kp)) Finset.univ i = S1 A B d i := fun i hi => by
  obtain ⟨x, rfl⟩ := mem_emb hi
  rw [S1_at]
  exact View.write_emb_of_mem (v := s1M.access (s1R kp zi)) f (prod A B d (on (pl d) zi) (on3 (co d) kp)) (Finset.mem_univ x)
theorem sum_stored (d : Dev nD) (kz : Fin 3) (f : (cc0_scratch2 : Ref sig .tc).ty.Contents (Elt F)) :
    ∀ i ∈ (s2R kz).set, (s2M.access (s2R kz)).write (Elt F) f (planeSum A B d (on3 (pl d) kz)) Finset.univ i = S2 A B d i := fun i hi => by
  obtain ⟨x, rfl⟩ := mem_emb hi
  rw [S2_at]
  exact View.write_emb_of_mem (v := s2M.access (s2R kz)) f (planeSum A B d (on3 (pl d) kz)) (Finset.mem_univ x)
theorem keep_stored (d : Dev nD) (f : (cc0_scratch3 : Ref sig .tc).ty.Contents (Elt F)) :
    ∀ i ∈ (r2R (pl d)).set, (r2M.access (r2R (pl d))).write (Elt F) f (planeSum A B d (pl d)) Finset.univ i = R2 A B d i := fun i hi => by
  obtain ⟨x, rfl⟩ := mem_emb hi
  rw [R2_at, dv_pl_co]
  exact View.write_emb_of_mem (v := r2M.access (r2R (pl d))) f (planeSum A B d (pl d)) (Finset.mem_univ x)

/-- A stage-one transfer leaves the product in the slot it lands in; -/
theorem landed1 (d : Dev nD) (kp : Fin 3) (zi : Fin 4) (f : (cc0_scratch1 : Ref sig .tc).ty.Contents (Elt F)) :
    ∀ i ∈ (r1R (on (pl d) zi) (co d)).set,
      (r1E (on (pl d) zi) (co d)).view.write (Elt F) f ((s1E kp zi).view.read (Elt F) (S1 A B d)) Finset.univ i = R1 A B (dv (pl d) (on3 (co d) kp)) i := fun i hi => by
  obtain ⟨x, rfl⟩ := mem_emb hi
  obtain ⟨y, rfl⟩ := (Shape.reshapeEquiv squeezes_S1x1x128x2048_S128x2048.numel_eq).surjective x
  rw [R1_at, pl_dv, co_dv, dv_pl_co, ← S1_at]
  exact View.write_emb_of_mem (v := (r1E (on (pl d) zi) (co d)).view) f ((s1E kp zi).view.read (Elt F) (S1 A B d)) (Finset.mem_univ y)
/-- a stage-two one the plane's sum. -/
theorem landed2 (d : Dev nD) (kz : Fin 3) (f : (cc0_scratch3 : Ref sig .tc).ty.Contents (Elt F)) :
    ∀ i ∈ (r2R (pl d)).set,
      (r2E (pl d)).view.write (Elt F) f ((s2E kz).view.read (Elt F) (S2 A B d)) Finset.univ i = R2 A B (dv (on3 (pl d) kz) (co d)) i := fun i hi => by
  obtain ⟨x, rfl⟩ := mem_emb hi
  obtain ⟨y, rfl⟩ := (Shape.reshapeEquiv squeezes_S1x128x2048_S128x2048.numel_eq).surjective x
  rw [R2_at, pl_dv, co_dv, dv_pl_co, ← S2_at]
  exact View.write_emb_of_mem (v := (r2E (pl d)).view) f ((s2E kz).view.read (Elt F) (S2 A B d)) (Finset.mem_univ y)

end Contents

/-! ## The sets of the slots -/

theorem s1E_set (kp : Fin 3) (zi : Fin 4) : (s1E kp zi).view.set = (s1R kp zi).set := by
  show (((View.whole cc0_scratch0).slice (s1R kp zi)).reshape S128x2048 _).set = _
  rw [View.set_reshape, View.set_slice_whole]
theorem r1E_set (p q : Fin 4) : (r1E p q).view.set = (r1R p q).set := by
  show (((View.whole cc0_scratch1).slice (r1R p q)).reshape S128x2048 _).set = _
  rw [View.set_reshape, View.set_slice_whole]
theorem s2E_set (kz : Fin 3) : (s2E kz).view.set = (s2R kz).set := by
  show (((View.whole cc0_scratch2).slice (s2R kz)).reshape S128x2048 _).set = _
  rw [View.set_reshape, View.set_slice_whole]
theorem r2E_set (p : Fin 4) : (r2E p).view.set = (r2R p).set := by
  show (((View.whole cc0_scratch3).slice (r2R p)).reshape S128x2048 _).set = _
  rw [View.set_reshape, View.set_slice_whole]

theorem mem_s1R (kp : Fin 3) (zi : Fin 4) (i : S3x4x128x2048.Idx) : i ∈ (s1R kp zi).set ↔ i 0 = kp ∧ i 1 = zi := by
  rw [Rect.mem_set_unit]
  constructor
  · intro h
    have h0 := h 0; have h1 := h 1
    change kp.val ≤ (i 0).val ∧ (i 0).val < kp.val + 1 at h0
    change zi.val ≤ (i 1).val ∧ (i 1).val < zi.val + 1 at h1
    exact ⟨Fin.ext (by omega), Fin.ext (by omega)⟩
  · rintro ⟨h0, h1⟩ a
    have h2 : (i 2).val < 128 := (i 2).isLt
    have h3 : (i 3).val < 2048 := (i 3).isLt
    match a with
    | 0 => rw [h0]; show kp.val ≤ kp.val ∧ kp.val < kp.val + 1; omega
    | 1 => rw [h1]; show zi.val ≤ zi.val ∧ zi.val < zi.val + 1; omega
    | 2 => show 0 ≤ (i 2).val ∧ (i 2).val < 0 + 128; omega
    | 3 => show 0 ≤ (i 3).val ∧ (i 3).val < 0 + 2048; omega
theorem mem_r1R (p q : Fin 4) (i : S4x4x128x2048.Idx) : i ∈ (r1R p q).set ↔ i 0 = p ∧ i 1 = q := by
  rw [Rect.mem_set_unit]
  constructor
  · intro h
    have h0 := h 0; have h1 := h 1
    change p.val ≤ (i 0).val ∧ (i 0).val < p.val + 1 at h0
    change q.val ≤ (i 1).val ∧ (i 1).val < q.val + 1 at h1
    exact ⟨Fin.ext (by omega), Fin.ext (by omega)⟩
  · rintro ⟨h0, h1⟩ a
    have h2 : (i 2).val < 128 := (i 2).isLt
    have h3 : (i 3).val < 2048 := (i 3).isLt
    match a with
    | 0 => rw [h0]; show p.val ≤ p.val ∧ p.val < p.val + 1; omega
    | 1 => rw [h1]; show q.val ≤ q.val ∧ q.val < q.val + 1; omega
    | 2 => show 0 ≤ (i 2).val ∧ (i 2).val < 0 + 128; omega
    | 3 => show 0 ≤ (i 3).val ∧ (i 3).val < 0 + 2048; omega
theorem mem_rowR (p : Fin 4) (i : S4x4x128x2048.Idx) : i ∈ (rowR p).set ↔ i 0 = p := by
  rw [Rect.mem_set_unit]
  constructor
  · intro h
    have h0 := h 0
    change p.val ≤ (i 0).val ∧ (i 0).val < p.val + 1 at h0
    exact Fin.ext (by omega)
  · intro h0 a
    have h1 : (i 1).val < 4 := (i 1).isLt
    have h2 : (i 2).val < 128 := (i 2).isLt
    have h3 : (i 3).val < 2048 := (i 3).isLt
    match a with
    | 0 => rw [h0]; show p.val ≤ p.val ∧ p.val < p.val + 1; omega
    | 1 => show 0 ≤ (i 1).val ∧ (i 1).val < 0 + 4; omega
    | 2 => show 0 ≤ (i 2).val ∧ (i 2).val < 0 + 128; omega
    | 3 => show 0 ≤ (i 3).val ∧ (i 3).val < 0 + 2048; omega
theorem mem_s2R (kz : Fin 3) (i : S3x128x2048.Idx) : i ∈ (s2R kz).set ↔ i 0 = kz := by
  rw [Rect.mem_set_unit]
  constructor
  · intro h
    have h0 := h 0
    change kz.val ≤ (i 0).val ∧ (i 0).val < kz.val + 1 at h0
    exact Fin.ext (by omega)
  · intro h0 a
    have h1 : (i 1).val < 128 := (i 1).isLt
    have h2 : (i 2).val < 2048 := (i 2).isLt
    match a with
    | 0 => rw [h0]; show kz.val ≤ kz.val ∧ kz.val < kz.val + 1; omega
    | 1 => show 0 ≤ (i 1).val ∧ (i 1).val < 0 + 128; omega
    | 2 => show 0 ≤ (i 2).val ∧ (i 2).val < 0 + 2048; omega
theorem mem_r2R (p : Fin 4) (i : S4x128x2048.Idx) : i ∈ (r2R p).set ↔ i 0 = p := by
  rw [Rect.mem_set_unit]
  constructor
  · intro h
    have h0 := h 0
    change p.val ≤ (i 0).val ∧ (i 0).val < p.val + 1 at h0
    exact Fin.ext (by omega)
  · intro h0 a
    have h1 : (i 1).val < 128 := (i 1).isLt
    have h2 : (i 2).val < 2048 := (i 2).isLt
    match a with
    | 0 => rw [h0]; show p.val ≤ p.val ∧ p.val < p.val + 1; omega
    | 1 => show 0 ≤ (i 1).val ∧ (i 1).val < 0 + 128; omega
    | 2 => show 0 ≤ (i 2).val ∧ (i 2).val < 0 + 2048; omega

/-! The slots of one buffer are disjoint and make it up. -/

theorem s1_disj : ∀ t ∈ (Finset.univ : Finset (Fin 3 × Fin 4)), ∀ t' ∈ (Finset.univ : Finset (Fin 3 × Fin 4)), t ≠ t' → Disjoint (s1R t.1 t.2).set (s1R t'.1 t'.2).set :=
  fun t _ t' _ h => Finset.disjoint_left.mpr fun i hi hj => by
    have h1 := (mem_s1R _ _ i).mp hi; have h2 := (mem_s1R _ _ i).mp hj
    exact h (Prod.ext (h1.1.symm.trans h2.1) (h1.2.symm.trans h2.2))
theorem r1_disj : ∀ t ∈ (Finset.univ : Finset (Fin 4 × Fin 4)), ∀ t' ∈ (Finset.univ : Finset (Fin 4 × Fin 4)), t ≠ t' → Disjoint (r1R t.1 t.2).set (r1R t'.1 t'.2).set :=
  fun t _ t' _ h => Finset.disjoint_left.mpr fun i hi hj => by
    have h1 := (mem_r1R _ _ i).mp hi; have h2 := (mem_r1R _ _ i).mp hj
    exact h (Prod.ext (h1.1.symm.trans h2.1) (h1.2.symm.trans h2.2))
theorem row_disj (p : Fin 4) : ∀ t ∈ (Finset.univ : Finset (Fin 4)), ∀ t' ∈ (Finset.univ : Finset (Fin 4)), t ≠ t' → Disjoint (r1R p t).set (r1R p t').set :=
  fun t _ t' _ h => Finset.disjoint_left.mpr fun i hi hj =>
    h (((mem_r1R _ _ i).mp hi).2.symm.trans ((mem_r1R _ _ i).mp hj).2)
theorem s2_disj : ∀ t ∈ (Finset.univ : Finset (Fin 3)), ∀ t' ∈ (Finset.univ : Finset (Fin 3)), t ≠ t' → Disjoint (s2R t).set (s2R t').set :=
  fun t _ t' _ h => Finset.disjoint_left.mpr fun i hi hj => h (((mem_s2R _ i).mp hi).symm.trans ((mem_s2R _ i).mp hj))
theorem r2_disj : ∀ t ∈ (Finset.univ : Finset (Fin 4)), ∀ t' ∈ (Finset.univ : Finset (Fin 4)), t ≠ t' → Disjoint (r2R t).set (r2R t').set :=
  fun t _ t' _ h => Finset.disjoint_left.mpr fun i hi hj => h (((mem_r2R _ i).mp hi).symm.trans ((mem_r2R _ i).mp hj))

theorem s1_cover : (Finset.univ : Finset (Fin 3 × Fin 4)).biUnion (fun t => (s1R t.1 t.2).set) = Finset.univ :=
  Finset.eq_univ_iff_forall.mpr fun i => Finset.mem_biUnion.mpr ⟨((i 0 : Fin 3), (i 1 : Fin 4)), Finset.mem_univ _, (mem_s1R _ _ i).mpr ⟨rfl, rfl⟩⟩
theorem r1_cover : (Finset.univ : Finset (Fin 4 × Fin 4)).biUnion (fun t => (r1R t.1 t.2).set) = Finset.univ :=
  Finset.eq_univ_iff_forall.mpr fun i => Finset.mem_biUnion.mpr ⟨((i 0 : Fin 4), (i 1 : Fin 4)), Finset.mem_univ _, (mem_r1R _ _ i).mpr ⟨rfl, rfl⟩⟩
theorem row_cover (p : Fin 4) : (Finset.univ : Finset (Fin 4)).biUnion (fun t => (r1R p t).set) = (rowR p).set :=
  Finset.ext fun i => by
    rw [Finset.mem_biUnion, mem_rowR]
    constructor
    · rintro ⟨t, -, h⟩; exact ((mem_r1R _ _ i).mp h).1
    · intro h; exact ⟨(i 1 : Fin 4), Finset.mem_univ _, (mem_r1R _ _ i).mpr ⟨h, rfl⟩⟩
theorem s2_cover : (Finset.univ : Finset (Fin 3)).biUnion (fun t => (s2R t).set) = Finset.univ :=
  Finset.eq_univ_iff_forall.mpr fun i => Finset.mem_biUnion.mpr ⟨(i 0 : Fin 3), Finset.mem_univ _, (mem_s2R _ i).mpr rfl⟩
theorem r2_cover : (Finset.univ : Finset (Fin 4)).biUnion (fun t => (r2R t).set) = Finset.univ :=
  Finset.eq_univ_iff_forall.mpr fun i => Finset.mem_biUnion.mpr ⟨(i 0 : Fin 4), Finset.mem_univ _, (mem_r2R _ i).mpr rfl⟩

end Cert.Scatter

end
-- ==== Proof.Sched.lean ====
/-
# `Sched`: who pays which semaphore cell, what each payment hands over, and what a device owes

Each device has thirty-six cells of its own: the barrier; a cell per slot it sends from in stage one and per slot it lands
in; the same for stage two. Every cell is used in one round only.

* The barrier: the three other devices of the plane and the three devices at the same place of the other planes signal it,
  one unit each. A device of the plane hands over its four landing slots of stage one the waiting device sends into, a
  device across its one landing slot of stage two.
* A landing cell: the transfer that fills the slot pays it, and hands the slot over filled. The slots a device fills
  itself have a cell nobody pays and nobody waits for.
* A sending cell: the device's own transfer pays it, and hands the slot back.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own rounds beside the exchange's, whose duties are named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's own cells: the barrier; sending cell `(kp, zi)` of stage one; landing cell `(p, q)` of stage one; sending
    cell `kz` of stage two; landing cell `p` of stage two. -/
abbrev Site : Type := Unit ⊕ (Fin 3 × Fin 4) ⊕ (Fin 4 × Fin 4) ⊕ Fin 3 ⊕ Fin 4

@[match_pattern] abbrev bar : Site := .inl ()
@[match_pattern] abbrev s1 (kp : Fin 3) (zi : Fin 4) : Site := .inr (.inl (kp, zi))
@[match_pattern] abbrev r1 (p q : Fin 4) : Site := .inr (.inr (.inl (p, q)))
@[match_pattern] abbrev s2 (kz : Fin 3) : Site := .inr (.inr (.inr (.inl kz)))
@[match_pattern] abbrev r2 (p : Fin 4) : Site := .inr (.inr (.inr (.inr p)))

abbrev csem : Site → SemLoc sig
  | bar => .reg barS
  | s1 kp zi => .dma (s1Sem kp zi)
  | r1 p q => .dma (r1Sem p q)
  | s2 kz => .dma (s2Sem kz)
  | r2 p => .dma (r2Sem p)

abbrev cell (c : Dev nD) (s : Site) : GSem nD τ sig := ((c : Thread nD τ), csem s)

theorem csem_inj : ∀ s s' : Site, csem s = csem s' → s = s' := by decide +kernel

/-- The units of one slot's transfer. -/
abbrev N : ℕ := (r1E 0 0).view.dmaCredit
theorem N_pos : 0 < N := View.dmaCredit_pos _ (by decide)
theorem s1_credit (kp : Fin 3) (zi : Fin 4) : (s1E kp zi).view.dmaCredit = N := rfl
theorem r1_credit (p q : Fin 4) : (r1E p q).view.dmaCredit = N := rfl
theorem s2_credit (kz : Fin 3) : (s2E kz).view.dmaCredit = N := rfl
theorem r2_credit (p : Fin 4) : (r2E p).view.dmaCredit = N := rfl

def amt : Site → ℕ
  | bar => 1
  | s1 _ _ => N
  | r1 _ _ => N
  | s2 _ => N
  | r2 _ => N
theorem amt_pos (s : Site) : 0 < amt s := by
  rcases s with _ | _ | _ | _ | _
  · exact Nat.one_pos
  all_goals exact N_pos

/-- Who pays a cell. -/
def payers (c : Dev nD) : Site → Finset (Dev nD)
  | bar => Finset.univ.filter fun d => d ≠ c ∧ (pl d = pl c ∨ co d = co c)
  | s1 _ _ => {c}
  | r1 _ q => if q = co c then ∅ else {dv (pl c) q}
  | s2 _ => {c}
  | r2 p => if p = pl c then ∅ else {dv p (co c)}

/-- The place of a cell in the order the waits follow. -/
def rank : Site → ℕ
  | bar => 1
  | s1 _ _ => 0
  | r1 _ _ => 2
  | s2 _ => 0
  | r2 _ => 3

open Classical in
/-- The site a semaphore is. -/
def siteOf (sm : SemLoc sig) : Option Site := if h : ∃ s, csem s = sm then some h.choose else none

theorem siteOf_csem (s : Site) : siteOf (csem s) = some s := by
  have h : ∃ s', csem s' = csem s := ⟨s, rfl⟩
  unfold siteOf
  rw [dif_pos h, csem_inj _ _ h.choose_spec]

/-! ## The slots -/

def s1P (d : Dev nD) (kp : Fin 3) (zi : Fin 4) (f : (cc0_scratch0 : Ref sig .tc).ty.Contents (Elt F)) : sProp 𝕄 :=
  ((d : Thread nD τ).loc cc0_scratch0) ↦[(s1R kp zi).set]{fullShare} f
def r1P (d : Dev nD) (p q : Fin 4) (f : (cc0_scratch1 : Ref sig .tc).ty.Contents (Elt F)) : sProp 𝕄 :=
  ((d : Thread nD τ).loc cc0_scratch1) ↦[(r1R p q).set]{fullShare} f
def s2P (d : Dev nD) (kz : Fin 3) (f : (cc0_scratch2 : Ref sig .tc).ty.Contents (Elt F)) : sProp 𝕄 :=
  ((d : Thread nD τ).loc cc0_scratch2) ↦[(s2R kz).set]{fullShare} f
def r2P (d : Dev nD) (p : Fin 4) (f : (cc0_scratch3 : Ref sig .tc).ty.Contents (Elt F)) : sProp 𝕄 :=
  ((d : Thread nD τ).loc cc0_scratch3) ↦[(r2R p).set]{fullShare} f

omit [FloatOps F] in
instance s1P_storable (d kp zi f) : BI.Storable (upEmb : UEmb _ 𝕄) (s1P (F := F) d kp zi f) := by unfold s1P; infer_instance
omit [FloatOps F] in
instance r1P_storable (d p q f) : BI.Storable (upEmb : UEmb _ 𝕄) (r1P (F := F) d p q f) := by unfold r1P; infer_instance
omit [FloatOps F] in
instance s2P_storable (d kz f) : BI.Storable (upEmb : UEmb _ 𝕄) (s2P (F := F) d kz f) := by unfold s2P; infer_instance
omit [FloatOps F] in
instance r2P_storable (d p f) : BI.Storable (upEmb : UEmb _ 𝕄) (r2P (F := F) d p f) := by unfold r2P; infer_instance

omit [FloatOps F] in
theorem s1P_eq (d : Dev nD) (kp : Fin 3) (zi : Fin 4) (f : (cc0_scratch0 : Ref sig .tc).ty.Contents (Elt F)) :
    s1P d kp zi f = ((s1E kp zi).view.loc (d : Thread nD τ) ↦[(s1E kp zi).view.set]{fullShare} f : sProp 𝕄) := by
  unfold s1P; rw [s1E_set]
omit [FloatOps F] in
theorem r1P_eq (d : Dev nD) (p q : Fin 4) (f : (cc0_scratch1 : Ref sig .tc).ty.Contents (Elt F)) :
    r1P d p q f = ((r1E p q).view.loc (d : Thread nD τ) ↦[(r1E p q).view.set]{fullShare} f : sProp 𝕄) := by
  unfold r1P; rw [r1E_set]
omit [FloatOps F] in
theorem s2P_eq (d : Dev nD) (kz : Fin 3) (f : (cc0_scratch2 : Ref sig .tc).ty.Contents (Elt F)) :
    s2P d kz f = ((s2E kz).view.loc (d : Thread nD τ) ↦[(s2E kz).view.set]{fullShare} f : sProp 𝕄) := by
  unfold s2P; rw [s2E_set]
omit [FloatOps F] in
theorem r2P_eq (d : Dev nD) (p : Fin 4) (f : (cc0_scratch3 : Ref sig .tc).ty.Contents (Elt F)) :
    r2P d p f = ((r2E p).view.loc (d : Thread nD τ) ↦[(r2E p).view.set]{fullShare} f : sProp 𝕄) := by
  unfold r2P; rw [r2E_set]

/-! ## The schedule -/

section Schedule

variable (A : Dev nD → (cc0_stg0_0 : Ref sig .tc).ty.Contents (Elt F)) (B : Dev nD → (cc0_stg1_0 : Ref sig .tc).ty.Contents (Elt F))

/-- The landing slots of `d` that device `c` sends into: of stage one if they share a plane, of stage two otherwise. -/
def lend (d c : Dev nD) : sProp 𝕄 :=
  if pl d = pl c then bigSep Finset.univ fun p : Fin 4 => iprop(∃ f, r1P d p (co c) f) else iprop(∃ f, r2P d (pl c) f)

/-- What payer `d` hands over at device `c`'s cell. -/
def pay (c : Dev nD) (d : Dev nD) : Site → sProp 𝕄
  | bar => lend d c
  | s1 kp zi => s1P c kp zi (S1 A B c)
  | r1 p q => r1P c p q (R1 A B c)
  | s2 kz => s2P c kz (S2 A B c)
  | r2 p => r2P c p (R2 A B c)

omit [FloatOps F] in
instance lend_storable (d c : Dev nD) : BI.Storable (upEmb : UEmb _ 𝕄) (lend (F := F) d c) := by
  unfold lend; split <;> infer_instance
instance pay_storable (c d : Dev nD) (s : Site) : BI.Storable (upEmb : UEmb _ 𝕄) (pay A B c d s) := by
  rcases s with _ | _ | _ | _ | _ <;> (unfold pay; infer_instance)

def Rd : Rounds.Schedule (GSem nD τ sig) (Dev nD) 𝕄 where
  duties g r := if r = 0 ∧ g.1.2 = .tc then (siteOf g.2).elim ∅ (payers g.1.1) else ∅
  unitless _ := False
  amount g _ _ := (siteOf g.2).elim 1 amt
  payload g _ d := (siteOf g.2).elim iprop(emp) (pay A B g.1.1 d)
  amount_pos g _ _ _ := by
    cases siteOf g.2 with
    | none => exact Nat.one_pos
    | some s => exact amt_pos s

instance Rd_payload_storable (g : GSem nD τ sig) (r : ℕ) (d : Dev nD) : BI.Storable (upEmb : UEmb _ 𝕄) ((Rd A B).payload g r d) := by
  show BI.Storable upEmb ((siteOf g.2).elim iprop(emp) (pay A B g.1.1 d))
  cases siteOf g.2 with
  | none => show BI.Storable upEmb (iprop(emp) : sProp 𝕄); infer_instance
  | some s => show BI.Storable upEmb (pay A B g.1.1 d s); infer_instance

theorem duties_cell (c : Dev nD) (s : Site) : (Rd A B).duties (cell c s) 0 = payers c s := by
  show (if (0 : ℕ) = 0 ∧ (Proc.tc : Proc τ) = .tc then (siteOf (csem s)).elim ∅ (payers c) else ∅) = _
  rw [if_pos ⟨rfl, rfl⟩, siteOf_csem]; rfl
theorem duties_later (g : GSem nD τ sig) : ∀ r, 1 ≤ r → (Rd A B).duties g r = ∅ :=
  fun r hr => if_neg fun h => by omega
theorem duties_none (c : Dev nD) (s : Site) (h : payers c s = ∅) : ∀ r, 0 ≤ r → (Rd A B).duties (cell c s) r = ∅ := fun r _ => by
  rcases Nat.eq_zero_or_pos r with rfl | hr
  · rw [duties_cell, h]
  · exact duties_later A B _ r hr
theorem amount_cell (c : Dev nD) (s : Site) (d : Dev nD) : (Rd A B).amount (cell c s) 0 d = amt s := by
  show (siteOf (csem s)).elim 1 amt = _
  rw [siteOf_csem]; rfl
theorem payload_cell (c : Dev nD) (s : Site) (d : Dev nD) : (Rd A B).payload (cell c s) 0 d = pay A B c d s := by
  show (siteOf (csem s)).elim iprop(emp) (pay A B c d) = _
  rw [siteOf_csem]; rfl
theorem expect_cell (c : Dev nD) (s : Site) : (Rd A B).expect (cell c s) 0 = (payers c s).card * amt s := by
  unfold Schedule.expect Schedule.amountOf
  rw [duties_cell, Finset.sum_congr rfl fun d _ => amount_cell A B c s d, Finset.sum_const, smul_eq_mul]
theorem rest_cell (c : Dev nD) (s : Site) :
    bigSep ((Rd A B).duties (cell c s) 0 \ ∅) (fun d => (Rd A B).payload (cell c s) 0 d) = bigSep (payers c s) fun d => pay A B c d s := by
  rw [Finset.sdiff_empty, duties_cell]
  exact bigSep_congr fun d _ => payload_cell A B c s d

end Schedule

/-! ## What a device owes, in the order it pays; the levels -/

/-- The units of a list of payments, the first of which is made first. -/
def ow : List (Dev nD × Site) → CellTallies nD τ sig Unit
  | [] => 0
  | x :: l => ow l + tallyAt (cell x.1 x.2) () (amt x.2)

theorem ow_pos : ∀ (l : List (Dev nD × Site)) {g : GSem nD τ sig} {u : Unit}, 0 < ow l g u → ∃ x ∈ l, g = cell x.1 x.2
  | [], _, _, h => absurd h (Nat.lt_irrefl 0)
  | x :: l, g, u, h => by
    unfold ow at h
    rw [Pi.add_apply, Finsupp.add_apply, tallyAt_apply] at h
    by_cases hx : g = cell x.1 x.2
    · exact ⟨x, List.mem_cons_self .., hx⟩
    · rw [if_neg fun h' => hx h'.1] at h
      obtain ⟨y, hy, e⟩ := ow_pos l (g := g) (u := u) h
      exact ⟨y, List.mem_cons_of_mem _ hy, e⟩

/-- The signals; -/
def dues0 (d : Dev nD) : List (Dev nD × Site) :=
  [(sigTo d 0, bar), (sigTo d 1, bar), (sigTo d 2, bar), (sigTo d 3, bar), (sigTo d 4, bar), (sigTo d 5, bar)]
/-- one plane's transfers of stage one; -/
def dues1 (d : Dev nD) (zi : Fin 4) : List (Dev nD × Site) :=
  [(dv (pl d) (on3 (co d) 0), r1 (on (pl d) zi) (co d)), (dv (pl d) (on3 (co d) 1), r1 (on (pl d) zi) (co d)),
    (dv (pl d) (on3 (co d) 2), r1 (on (pl d) zi) (co d))]
/-- the transfers of stage two. -/
def dues2 (d : Dev nD) : List (Dev nD × Site) :=
  [(dv (on3 (pl d) 0) (co d), r2 (pl d)), (dv (on3 (pl d) 1) (co d), r2 (pl d)), (dv (on3 (pl d) 2) (co d), r2 (pl d))]
def dues (d : Dev nD) : List (Dev nD × Site) :=
  dues0 d ++ (dues1 d 0 ++ (dues1 d 1 ++ (dues1 d 2 ++ (dues1 d 3 ++ dues2 d))))

def L (g : GSem nD τ sig) : Finset Unit := if g.1.2 = .tc then {()} else ∅
def lv (g : GSem nD τ sig) (_ : Unit) : ℕ := (siteOf g.2).elim 0 rank

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (s : Site) (u : Unit) : lv (cell c s) u = rank s := by
  show (siteOf (csem s)).elim 0 rank = _
  rw [siteOf_csem]; rfl

omit [FloatOps F] in
/-- A wait below everything the device still owes. -/
theorem mayWait (c : Dev nD) (sm : SemLoc sig) (l : List (Dev nD × Site))
    (h : ∀ x ∈ l, lv ((c : Thread nD τ), sm) () < rank x.2) :
    (levAts L lv : sProp 𝕄) ⊢ MayWait (c : Thread nD τ) sm () (ow l) :=
  MayOwe.of_cut (L := L) (lev := lv) (lv ((c : Thread nD τ), sm) ()) (fun p hp => by rw [Finset.mem_singleton.mp hp, L_tc]; exact Finset.mem_singleton_self _)
    (fun g u hg => by obtain ⟨x, -, rfl⟩ := ow_pos l hg; rw [L_tc]; exact Finset.mem_singleton_self _)
    (fun p hp => by rw [Finset.mem_singleton.mp hp])
    (fun g u hg => by obtain ⟨x, hx, rfl⟩ := ow_pos l hg; rw [lv_cell]; exact h x hx)

end Cert.Scatter

end
-- ==== Proof.Steps.lean ====
/-
# `Steps`: what each step of the body does to a device's resources

Each step is proved once, at a symbolic device and symbolic loop counters, against any continuation.
-/
module

public import proofs.«01_k».proof.Proof.Sched

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (A : Dev nD → (cc0_stg0_0 : Ref sig .tc).ty.Contents (Elt F)) (B : Dev nD → (cc0_stg1_0 : Ref sig .tc).ty.Contents (Elt F))
variable (K : Dev nD × Site → ℕ)

/-- What every device may consult throughout: every cell's invariant and mark, and the levels. -/
def recs : sProp 𝕄 :=
  iprop((bigSep Finset.univ fun x : Dev nD × Site => cellInv ER (Rd A B) (K x) (cell x.1 x.2))
    ∗ (bigSep Finset.univ fun x : Dev nD × Site => reached ER (cell x.1 x.2) 0) ∗ levAts L lv)
instance recs_persistent : BI.Persistent (recs A B K) := by unfold recs; infer_instance

theorem recs_inv (c : Dev nD) (s : Site) : recs A B K ⊢ cellInv ER (Rd A B) (K (c, s)) (cell c s) := by
  haveI : DecidableEq (Dev nD × Site) := Classical.decEq _
  have h : (bigSep Finset.univ fun x : Dev nD × Site => (cellInv ER (Rd A B) (K x) (cell x.1 x.2) : sProp 𝕄)) ⊢ cellInv ER (Rd A B) (K (c, s)) (cell c s) :=
    bigSep_elim (Finset.mem_univ ((c, s) : Dev nD × Site))
  unfold recs
  iintro ⟨H, -, -⟩
  iapply h; iexact H
theorem recs_mark (c : Dev nD) (s : Site) : recs A B K ⊢ reached ER (cell c s) 0 := by
  haveI : DecidableEq (Dev nD × Site) := Classical.decEq _
  have h : (bigSep Finset.univ fun x : Dev nD × Site => (reached ER (cell x.1 x.2) 0 : sProp 𝕄)) ⊢ reached ER (cell c s) 0 :=
    bigSep_elim (Finset.mem_univ ((c, s) : Dev nD × Site))
  unfold recs
  iintro ⟨-, H, -⟩
  iapply h; iexact H
theorem recs_lev : recs A B K ⊢ levAts L lv := by
  unfold recs
  iintro ⟨-, -, H⟩
  iexact H

/-- A device still owing the payments of a list. -/
def owing (d : Dev nD) (l : List (Dev nD × Site)) : sProp 𝕄 := iprop(∃ W : Waits sig Unit, owes (d : Thread nD τ) (ow l) W)
/-- The right to pay. -/
def tok (c : Dev nD) (s : Site) (d : Dev nD) : sProp 𝕄 := dutyTok ER (cell c s) 0 d
/-- The units a device may wait for at its cell. -/
def due (c : Dev nD) (s : Site) (n : ℕ) : sProp 𝕄 := cred (tallyAt (cell c s) () n)
/-- A cell not waited at yet; -/
def fresh (c : Dev nD) (s : Site) : sProp 𝕄 := atPos ER (cell c s) 0 ∅ 0
/-- a cell done with. -/
def spent (c : Dev nD) (s : Site) : sProp 𝕄 := semVal (cell c s) 0

def stgA (d : Dev nD) : sProp 𝕄 := ((d : Thread nD τ).loc cc0_stg0_0) ↦{fullShare} A d
def stgB (d : Dev nD) : sProp 𝕄 := ((d : Thread nD τ).loc cc0_stg1_0) ↦{fullShare} B d

/-! ## Where the accesses fall -/

theorem setOn_whole (b : Ref sig .tc) (S : Finset b.ty.shape.Idx) : (View.whole b : View sig .tc _ _ _).setOn S = S := Finset.map_refl

/-! ## The waits -/

/-- A wait for all of a DMA cell paid by one transfer: the cell is done with, and its payload the device's. -/
theorem wait_spec (c d : Dev nD) (s : Site) (sem : DmaSem sig) (hs : csem s = .dma sem) (hp : payers c s = {d}) (hN : amt s = N)
    (l : List (Dev nD × Site)) (hl : ∀ x ∈ l, rank s < rank x.2)
    {src : Memref sig .tc .vmem S128x2048 .bf16} {dst : Memref sig .tc .vmem S128x2048 .bf16} (hd : dst.view.dmaCredit = N)
    {hsrc : src.view.WordExact} {hdst : dst.view.WordExact} (Q : PUnit → sProp 𝕄) :
    iprop(recs A B K ∗ fresh c s ∗ due c s N ∗ owing c l ∗ ((spent c s ∗ pay A B c d s ∗ owing c l) -∗ Q ⟨⟩))
      ⊢ wp frame (wpE (defs₀ (F := F)) 𝒱₀ (c : Thread nD τ) none) Set.univ (Prog.lift (.waitDma2 sem src dst hsrc hdst)) Q := by
  unfold fresh due owing spent Prog.lift
  iintro ⟨#Hr, Hat, Hc, ⟨%W, HO⟩, Hk⟩
  have hcell : cell c s = ((c : Thread nD τ), .dma sem) := congrArg (fun x => ((c : Thread nD τ), x)) hs
  have hx : 0 + dst.view.dmaCredit = (Rd A B).expect ((c : Thread nD τ), .dma sem) 0 := by
    rw [← hcell, expect_cell, hp, Finset.card_singleton, hN, hd, Nat.zero_add, Nat.one_mul]
  have hlv : ∀ x ∈ l, lv ((c : Thread nD τ), .dma sem) () < rank x.2 := fun x hx => by rw [← hcell, lv_cell]; exact hl x hx
  iapply (Rounds.wp_wait_rest_token 𝒱₀ ER (Rd A B) (c : Thread nD τ) none (κ := K (c, s))
      (wpE_waitDma2_eq 𝒱₀ (c : Thread nD τ) none Set.univ) (Set.mem_univ _) () (O := ow l) (W := W) (R := 0) (m := 0) (T := ∅) hx) $$ [Hc HO Hat]
  · rw [← hcell, hd]
    isplitr; · iapply (recs_inv A B K c s); iexact Hr
    isplitl [Hc]; · iexact Hc
    isplitl [HO]; · iexact HO
    isplitr; · iapply (mayWait c (.dma sem) l hlv); iapply (recs_lev A B K); iexact Hr
    iexact Hat
  iintro ⟨HO, Hat, -, Hpay⟩
  rw [← hcell]
  ihave Hp := (Entails.of_eq ((rest_cell A B c s).trans (by rw [hp, bigSep_singleton]))) $$ Hpay
  imod (Rounds.cell_close ER (Rd A B) (Set.mem_univ (K (c, s))) (fun h => h) (R := 0 + 1) (duties_later A B (cell c s))) $$ [Hat] with Hz
  · isplitr; · iapply (recs_inv A B K c s); iexact Hr
    iexact Hat
  rw [wp_ret]; imodintro
  iapply Hk
  isplitl [Hz]; · iexact Hz
  isplitl [Hp]; · iexact Hp
  iexists _; iexact HO

/-! ## Stage one -/

theorem own_spec (d : Dev nD) (p : Fin 4) (Q : PUnit → sProp 𝕄) :
    iprop(stgA A d ∗ stgB B d ∗ (∃ f, r1P d p (co d) f) ∗ ((stgA A d ∗ stgB B d ∗ r1P d p (co d) (R1 A B d)) -∗ Q ⟨⟩))
      ⊢ wp frame (wpE (defs₀ (F := F)) 𝒱₀ (d : Thread nD τ) none) Set.univ (ownAt p (co d)) Q := by
  unfold ownAt stgA stgB r1P
  simp only [Prog.lift, Prog.bind_op, Prog.bind_ret]
  iintro ⟨HA, HB, ⟨%f, Hs⟩, Hk⟩
  iapply (wp_load 𝒱₀ (d : Thread nD τ) none Set.univ (m := aM) (Finset.subset_univ _)) $$ HA; iintro HA
  iapply (wp_load 𝒱₀ (d : Thread nD τ) none Set.univ (m := bM) (Finset.subset_univ _)) $$ HB; iintro HB
  iapply (wp_load 𝒱₀ (d : Thread nD τ) none Set.univ (m := r1M) (setOn_whole cc0_scratch1 _).subset) $$ Hs; iintro Hs
  iapply (wp_store 𝒱₀ (d : Thread nD τ) none Set.univ (m := r1M) (r := r1R p (co d)) (Mk := Finset.univ) (View.set_slice_whole cc0_scratch1 _).subset) $$ Hs; iintro Hs
  rw [wp_ret]; imodintro
  iapply Hk
  isplitl [HA]; · iexact HA
  isplitl [HB]; · iexact HB
  ihave Hs' := (Entails.of_eq (pointsTo_congr (own_stored A B d p f))) $$ Hs
  iexact Hs'

theorem send_spec (d : Dev nD) (zi : Fin 4) (kp : Fin 3) (l : List (Dev nD × Site)) (Q : PUnit → sProp 𝕄) :
    iprop(recs A B K ∗ stgA A d ∗ stgB B d ∗ (∃ f, s1P d kp zi f) ∗ (∃ f, r1P (dv (pl d) (on3 (co d) kp)) (on (pl d) zi) (co d) f)
        ∗ tok d (s1 kp zi) d ∗ tok (dv (pl d) (on3 (co d) kp)) (r1 (on (pl d) zi) (co d)) d
        ∗ owing d ((dv (pl d) (on3 (co d) kp), r1 (on (pl d) zi) (co d)) :: l)
        ∗ ((stgA A d ∗ stgB B d ∗ due d (s1 kp zi) N ∗ owing d l) -∗ Q ⟨⟩))
      ⊢ wp frame (wpE (defs₀ (F := F)) 𝒱₀ (d : Thread nD τ) none) Set.univ
          (sendAt (dv (pl d) (on3 (co d) kp)) (on (pl d) zi) (on3 (co d) kp) (co d) zi kp) Q := by
  unfold sendAt stgA stgB owing tok due
  simp only [Prog.lift, Prog.bind_op, Prog.bind_ret]
  iintro ⟨#Hr, HA, HB, ⟨%f, Hs⟩, ⟨%g, Hn⟩, HtS, HtR, ⟨%W, HO⟩, Hk⟩
  unfold s1P
  iapply (wp_load 𝒱₀ (d : Thread nD τ) none Set.univ (m := aM) (Finset.subset_univ _)) $$ HA; iintro HA
  iapply (wp_load 𝒱₀ (d : Thread nD τ) none Set.univ (m := bM) (Finset.subset_univ _)) $$ HB; iintro HB
  iapply (wp_load 𝒱₀ (d : Thread nD τ) none Set.univ (m := s1M) (setOn_whole cc0_scratch0 _).subset) $$ Hs; iintro Hs
  iapply (wp_store 𝒱₀ (d : Thread nD τ) none Set.univ (m := s1M) (r := s1R kp zi) (Mk := Finset.univ) (View.set_slice_whole cc0_scratch0 _).subset) $$ Hs; iintro Hs
  ihave Hs' := (Entails.of_eq (pointsTo_congr (to_stored A B d kp zi f))) $$ Hs
  ihave Hs := (Entails.of_eq (s1P_eq d kp zi (S1 A B d))) $$ [Hs']
  · unfold s1P; iexact Hs'
  ihave Hn' := (Entails.of_eq (r1P_eq (dv (pl d) (on3 (co d) kp)) (on (pl d) zi) (co d) g)) $$ Hn
  have hq : (if co d = co (dv (pl d) (on3 (co d) kp)) then ∅ else {dv (pl (dv (pl d) (on3 (co d) kp))) (co d)} : Finset (Dev nD)) = {d} := by
    revert d kp; decide +kernel
  iapply (Rounds.wp_send_pointsTo 𝒱₀ ER (Rd A B) (d : Thread nD τ) none (c' := (dv (pl d) (on3 (co d) kp) : Thread nD τ))
    (src := s1E kp zi) (dst := r1E (on (pl d) zi) (co d)) (sS := .dma (s1Sem kp zi)) (sem := .dma (r1Sem (on (pl d) zi) (co d)))
    (κ₁ := K (d, s1 kp zi)) (κ₂ := K (dv (pl d) (on3 (co d) kp), r1 (on (pl d) zi) (co d)))
    (r₁ := 0) (r₂ := 0) (d₁ := d) (d₂ := d) (fs := S1 A B d) (fd := g)
    (by rw [duties_cell A B d (s1 kp zi)]; exact Finset.mem_singleton_self _)
    (by rw [duties_cell A B (dv (pl d) (on3 (co d) kp)) (r1 (on (pl d) zi) (co d))]; unfold payers; dsimp only; rw [hq]; exact Finset.mem_singleton_self _)
    () () N rfl (amount_cell A B d (s1 kp zi) d) (amount_cell A B (dv (pl d) (on3 (co d) kp)) (r1 (on (pl d) zi) (co d)) d) (ow l) rfl (W := W)
    (by rw [payload_cell A B d (s1 kp zi)]; exact Entails.of_eq (s1P_eq d kp zi (S1 A B d)).symm)
    (by
      rw [payload_cell A B (dv (pl d) (on3 (co d) kp)) (r1 (on (pl d) zi) (co d)), r1E_set]
      exact Entails.of_eq (pointsTo_congr (landed1 A B d kp zi g)))) $$ [Hs Hn' HO HtS HtR]
  · isplitr; · iapply (recs_inv A B K d (s1 kp zi)); iexact Hr
    isplitr; · iapply (recs_inv A B K (dv (pl d) (on3 (co d) kp)) (r1 (on (pl d) zi) (co d))); iexact Hr
    isplitl [Hs]; · iexact Hs
    isplitl [Hn']; · iexact Hn'
    isplitl [HO]; · iexact HO
    isplitl [HtS]; · iexact HtS
    isplitr; · iapply (recs_mark A B K d (s1 kp zi)); iexact Hr
    isplitl [HtR]; · iexact HtR
    iapply (recs_mark A B K (dv (pl d) (on3 (co d) kp)) (r1 (on (pl d) zi) (co d))); iexact Hr
  iintro ⟨Hc, HO⟩
  rw [wp_ret]; imodintro
  iapply Hk
  isplitl [HA]; · iexact HA
  isplitl [HB]; · iexact HB
  isplitl [Hc]; · iexact Hc
  iexists _; iexact HO

/-! ## Stage two -/

omit [FloatOps F] in
/-- Disjoint slots held at one valuation, held as one region. -/
theorem slots_join (ℓ : Loc nD τ sig) {T : Type} (S : Finset T) (X : T → Finset (Idx ℓ)) (U : Finset (Idx ℓ)) (f : Buf (Elt F) ℓ)
    (h : ∀ t ∈ S, ∀ t' ∈ S, t ≠ t' → Disjoint (X t) (X t')) (hU : ∀ i, i ∈ U ↔ ∃ t ∈ S, i ∈ X t) :
    (bigSep S fun t => (ℓ ↦[X t]{fullShare} f : sProp 𝕄)) = (ℓ ↦[U]{fullShare} f : sProp 𝕄) := by
  have e : U = S.biUnion X := Finset.ext fun i => (hU i).trans Finset.mem_biUnion.symm
  rw [e, pointsTo_biUnion S X h]

omit [FloatOps F] in
theorem row_eq (d : Dev nD) (p : Fin 4) (f : (cc0_scratch1 : Ref sig .tc).ty.Contents (Elt F)) :
    (bigSep Finset.univ fun q : Fin 4 => r1P d p q f) = (((d : Thread nD τ).loc cc0_scratch1) ↦[(rowR p).set]{fullShare} f : sProp 𝕄) :=
  slots_join ((d : Thread nD τ).loc cc0_scratch1) Finset.univ (fun q : Fin 4 => (r1R p q).set) (rowR p).set f (row_disj p) fun i =>
    (mem_rowR p i).trans ⟨fun h => ⟨(i 1 : Fin 4), Finset.mem_univ _, (mem_r1R _ _ i).mpr ⟨h, rfl⟩⟩, fun ⟨_, _, h⟩ => ((mem_r1R _ _ i).mp h).1⟩

/-- The four filled slots of one plane's row of the landing buffer. -/
def row (d : Dev nD) (p : Fin 4) : sProp 𝕄 := bigSep Finset.univ fun q : Fin 4 => r1P d p q (R1 A B d)

theorem sum_spec (d : Dev nD) (kz : Fin 3) (Q : PUnit → sProp 𝕄) :
    iprop(row A B d (on3 (pl d) kz) ∗ (∃ f, s2P d kz f) ∗ ((row A B d (on3 (pl d) kz) ∗ s2P d kz (S2 A B d)) -∗ Q ⟨⟩))
      ⊢ wp frame (wpE (defs₀ (F := F)) 𝒱₀ (d : Thread nD τ) none) Set.univ (sumAt (on3 (pl d) kz) kz) Q := by
  unfold sumAt row s2P
  rw [row_eq]
  simp only [Prog.lift, Prog.bind_op, Prog.bind_ret]
  iintro ⟨Hr, ⟨%f, Hs⟩, Hk⟩
  iapply (wp_load 𝒱₀ (d : Thread nD τ) none Set.univ (m := r1M) (setOn_whole cc0_scratch1 _).subset) $$ Hr; iintro Hr
  iapply (wp_load 𝒱₀ (d : Thread nD τ) none Set.univ (m := s2M) (setOn_whole cc0_scratch2 _).subset) $$ Hs; iintro Hs
  iapply (wp_store 𝒱₀ (d : Thread nD τ) none Set.univ (m := s2M) (r := s2R kz) (Mk := Finset.univ) (View.set_slice_whole cc0_scratch2 _).subset) $$ Hs; iintro Hs
  rw [wp_ret]; imodintro
  iapply Hk
  isplitl [Hr]; · iexact Hr
  ihave Hs' := (Entails.of_eq (pointsTo_congr (sum_stored A B d kz f))) $$ Hs
  iexact Hs'

theorem keep_spec (d : Dev nD) (Q : PUnit → sProp 𝕄) :
    iprop(row A B d (pl d) ∗ (∃ f, r2P d (pl d) f) ∗ ((row A B d (pl d) ∗ r2P d (pl d) (R2 A B d)) -∗ Q ⟨⟩))
      ⊢ wp frame (wpE (defs₀ (F := F)) 𝒱₀ (d : Thread nD τ) none) Set.univ (keepAt (pl d)) Q := by
  unfold keepAt row r2P
  rw [row_eq]
  simp only [Prog.lift, Prog.bind_op, Prog.bind_ret]
  iintro ⟨Hr, ⟨%f, Hs⟩, Hk⟩
  iapply (wp_load 𝒱₀ (d : Thread nD τ) none Set.univ (m := r1M) (setOn_whole cc0_scratch1 _).subset) $$ Hr; iintro Hr
  iapply (wp_load 𝒱₀ (d : Thread nD τ) none Set.univ (m := r2M) (setOn_whole cc0_scratch3 _).subset) $$ Hs; iintro Hs
  iapply (wp_store 𝒱₀ (d : Thread nD τ) none Set.univ (m := r2M) (r := r2R (pl d)) (Mk := Finset.univ) (View.set_slice_whole cc0_scratch3 _).subset) $$ Hs; iintro Hs
  rw [wp_ret]; imodintro
  iapply Hk
  isplitl [Hr]; · iexact Hr
  ihave Hs' := (Entails.of_eq (pointsTo_congr (keep_stored A B d f))) $$ Hs
  iexact Hs'

theorem across_spec (d : Dev nD) (kz : Fin 3) (l : List (Dev nD × Site)) (Q : PUnit → sProp 𝕄) :
    iprop(recs A B K ∗ s2P d kz (S2 A B d) ∗ (∃ f, r2P (dv (on3 (pl d) kz) (co d)) (pl d) f)
        ∗ tok d (s2 kz) d ∗ tok (dv (on3 (pl d) kz) (co d)) (r2 (pl d)) d
        ∗ owing d ((dv (on3 (pl d) kz) (co d), r2 (pl d)) :: l)
        ∗ ((due d (s2 kz) N ∗ owing d l) -∗ Q ⟨⟩))
      ⊢ wp frame (wpE (defs₀ (F := F)) 𝒱₀ (d : Thread nD τ) none) Set.univ (acrossAt (dv (on3 (pl d) kz) (co d)) (pl d) kz) Q := by
  unfold acrossAt owing tok due
  simp only [Prog.lift]
  iintro ⟨#Hr, Hs', ⟨%g, Hn⟩, HtS, HtR, ⟨%W, HO⟩, Hk⟩
  ihave Hs := (Entails.of_eq (s2P_eq d kz (S2 A B d))) $$ Hs'
  ihave Hn' := (Entails.of_eq (r2P_eq (dv (on3 (pl d) kz) (co d)) (pl d) g)) $$ Hn
  have hq : (if pl d = pl (dv (on3 (pl d) kz) (co d)) then ∅ else {dv (pl d) (co (dv (on3 (pl d) kz) (co d)))} : Finset (Dev nD)) = {d} := by
    revert d kz; decide +kernel
  iapply (Rounds.wp_send_pointsTo 𝒱₀ ER (Rd A B) (d : Thread nD τ) none (c' := (dv (on3 (pl d) kz) (co d) : Thread nD τ))
    (src := s2E kz) (dst := r2E (pl d)) (sS := .dma (s2Sem kz)) (sem := .dma (r2Sem (pl d)))
    (κ₁ := K (d, s2 kz)) (κ₂ := K (dv (on3 (pl d) kz) (co d), r2 (pl d)))
    (r₁ := 0) (r₂ := 0) (d₁ := d) (d₂ := d) (fs := S2 A B d) (fd := g)
    (by rw [duties_cell A B d (s2 kz)]; exact Finset.mem_singleton_self _)
    (by rw [duties_cell A B (dv (on3 (pl d) kz) (co d)) (r2 (pl d))]; unfold payers; dsimp only; rw [hq]; exact Finset.mem_singleton_self _)
    () () N rfl (amount_cell A B d (s2 kz) d) (amount_cell A B (dv (on3 (pl d) kz) (co d)) (r2 (pl d)) d) (ow l) rfl (W := W)
    (by rw [payload_cell A B d (s2 kz)]; exact Entails.of_eq (s2P_eq d kz (S2 A B d)).symm)
    (by
      rw [payload_cell A B (dv (on3 (pl d) kz) (co d)) (r2 (pl d)), r2E_set]
      exact Entails.of_eq (pointsTo_congr (landed2 A B d kz g)))) $$ [Hs Hn' HO HtS HtR]
  · isplitr; · iapply (recs_inv A B K d (s2 kz)); iexact Hr
    isplitr; · iapply (recs_inv A B K (dv (on3 (pl d) kz) (co d)) (r2 (pl d))); iexact Hr
    isplitl [Hs]; · iexact Hs
    isplitl [Hn']; · iexact Hn'
    isplitl [HO]; · iexact HO
    isplitl [HtS]; · iexact HtS
    isplitr; · iapply (recs_mark A B K d (s2 kz)); iexact Hr
    isplitl [HtR]; · iexact HtR
    iapply (recs_mark A B K (dv (on3 (pl d) kz) (co d)) (r2 (pl d))); iexact Hr
  iintro ⟨Hc, HO⟩
  rw [wp_ret]; imodintro
  iapply Hk
  isplitl [Hc]; · iexact Hc
  iexists _; iexact HO

theorem zeros2 : (![0, 0] : Fin 2 → Nat) = fun _ => 0 := funext fun a => by fin_cases a <;> rfl

def stgO (d : Dev nD) (f : (cc0_stg2_0 : Ref sig .tc).ty.Contents (Elt F)) : sProp 𝕄 := ((d : Thread nD τ).loc cc0_stg2_0) ↦{fullShare} f

/-- The landing buffer of stage two, filled. -/
def landing2 (d : Dev nD) : sProp 𝕄 := bigSep Finset.univ fun p : Fin 4 => r2P d p (R2 A B d)
theorem landing2_eq (d : Dev nD) : landing2 A B d = (((d : Thread nD τ).loc cc0_scratch3) ↦{fullShare} R2 A B d : sProp 𝕄) :=
  slots_join ((d : Thread nD τ).loc cc0_scratch3) Finset.univ (fun p : Fin 4 => (r2R p).set) Finset.univ (R2 A B d) r2_disj fun i =>
    ⟨fun _ => ⟨(i 0 : Fin 4), Finset.mem_univ _, (mem_r2R _ i).mpr rfl⟩, fun _ => Finset.mem_univ _⟩

theorem out_spec (d : Dev nD) (Q : PUnit → sProp 𝕄) :
    iprop(landing2 A B d ∗ (∃ f, stgO d f) ∗ ((landing2 A B d ∗ stgO d (res A B d)) -∗ Q ⟨⟩))
      ⊢ wp frame (wpE (defs₀ (F := F)) 𝒱₀ (d : Thread nD τ) none) Set.univ outStep Q := by
  unfold outStep stgO
  rw [landing2_eq]
  simp only [Prog.lift, Prog.bind_op, Prog.bind_ret]
  iintro ⟨Hr, ⟨%f, Hs⟩, Hk⟩
  iapply (wp_load 𝒱₀ (d : Thread nD τ) none Set.univ (m := r2M) (Finset.subset_univ _)) $$ Hr; iintro Hr
  iapply (wp_load 𝒱₀ (d : Thread nD τ) none Set.univ (m := oM) (Finset.subset_univ _)) $$ Hs; iintro Hs
  iapply (wp_store 𝒱₀ (d : Thread nD τ) none Set.univ (m := oM) (r := oAll) (Mk := Finset.univ) (Finset.subset_univ _)) $$ Hs; iintro Hs
  rw [wp_ret]; imodintro
  iapply Hk
  isplitl [Hr]; · iexact Hr
  ihave Hs' := (Entails.of_eq (congrArg (fun g => (((d : Thread nD τ).loc cc0_stg2_0) ↦{fullShare} g : sProp 𝕄))
    (Memref.write_access_unit_zero_univ (Elt F) cc0_stg2_0 zeros2 _ f (res A B d)))) $$ Hs
  iexact Hs'

/-! ## The handshake -/

theorem sig_spec (d : Dev nD) (k : Fin 6) (l : List (Dev nD × Site)) (Q : PUnit → sProp 𝕄) :
    iprop(recs A B K ∗ (lend d (sigTo d k) ∗ tok (sigTo d k) bar d) ∗ owing d ((sigTo d k, bar) :: l) ∗ (owing d l -∗ Q ⟨⟩))
      ⊢ wp frame (wpE (defs₀ (F := F)) 𝒱₀ (d : Thread nD τ) none) Set.univ (sigStep d k) Q := by
  unfold sigStep owing tok
  rw [sigDev_eq]
  unfold semSignalWord
  iintro ⟨#Hr, ⟨Hl, Ht⟩, ⟨%W, HO⟩, Hk⟩
  have hq : d ∈ payers (sigTo d k) bar := by revert d k; decide +kernel
  iapply (Rounds.wp_signal 𝒱₀ ER (Rd A B) (d : Thread nD τ) none (dst := (sigTo d k : Thread nD τ)) (κ := K (sigTo d k, bar))
      (d := d) (r := 0) (by rw [duties_cell A B (sigTo d k) bar]; exact hq) ((amount_cell A B (sigTo d k) bar d).trans (by decide)) () (ow l) rfl (W := W))
    $$ [HO Hl Ht]
  · isplitr; · iapply (recs_inv A B K (sigTo d k) bar); iexact Hr
    isplitl [HO]; · iexact HO
    isplitl [Ht]; · iexact Ht
    isplitl [Hl]; · rw [payload_cell A B (sigTo d k) bar]; iapply (Entails.of_eq (show lend (F := F) d (sigTo d k) = pay A B (sigTo d k) d bar from rfl)); iexact Hl
    iapply (recs_mark A B K (sigTo d k) bar); iexact Hr
  iintro HO
  rw [wp_ret]; imodintro
  iapply Hk
  iexists _; iexact HO

theorem payers_bar : ∀ c : Dev nD, payers c bar = [sigTo c 0, sigTo c 1, sigTo c 2, sigTo c 3, sigTo c 4, sigTo c 5].toFinset := by decide +kernel
theorem sigTo_nodup : ∀ c : Dev nD, [sigTo c 0, sigTo c 1, sigTo c 2, sigTo c 3, sigTo c 4, sigTo c 5].Nodup := by decide +kernel

/-- What the handshake brings: the landing slots of the six partners. -/
def lent (d : Dev nD) : sProp 𝕄 :=
  iprop(lend (sigTo d 0) d ∗ lend (sigTo d 1) d ∗ lend (sigTo d 2) d ∗ lend (sigTo d 3) d ∗ lend (sigTo d 4) d ∗ lend (sigTo d 5) d)

theorem barWait_spec (d : Dev nD) (l : List (Dev nD × Site)) (hl : ∀ x ∈ l, 1 < rank x.2) (Q : PUnit → sProp 𝕄) :
    iprop(recs A B K ∗ fresh d bar ∗ due d bar 6 ∗ owing d l ∗ ((spent d bar ∗ lent d ∗ owing d l) -∗ Q ⟨⟩))
      ⊢ wp frame (wpE (defs₀ (F := F)) 𝒱₀ (d : Thread nD τ) none) Set.univ (semWaitWord barS 6#32) Q := by
  unfold fresh due owing spent semWaitWord
  iintro ⟨#Hr, Hat, Hc, ⟨%W, HO⟩, Hk⟩
  have hcard : (payers d bar).card = 6 := by revert d; decide +kernel
  have hlv : ∀ x ∈ l, lv (cell d bar) () < rank x.2 := fun x hx => by rw [lv_cell]; exact hl x hx
  iapply (Rounds.wp_wait_rest_token 𝒱₀ ER (Rd A B) (d : Thread nD τ) none (κ := K (d, bar))
      (wpE_semWait_eq 𝒱₀ (d : Thread nD τ) none Set.univ) (Set.mem_univ _) () (O := ow l) (W := W) (R := 0) (m := 0) (T := ∅)
      (by rw [expect_cell A B d bar, hcard]; decide)) $$ [Hc HO Hat]
  · isplitr; · iapply (recs_inv A B K d bar); iexact Hr
    isplitl [Hc]; · iexact Hc
    isplitl [HO]; · iexact HO
    isplitr; · iapply (mayWait d (.reg barS) l hlv); iapply (recs_lev A B K); iexact Hr
    iexact Hat
  iintro ⟨HO, Hat, -, Hpay⟩
  have hrest : (bigSep ((Rd A B).duties (cell d bar) 0 \ ∅) fun x => (Rd A B).payload (cell d bar) 0 x) = lent (F := F) d := by
    rw [rest_cell, bigSep_eq_bigSepL_of_eq [sigTo d 0, sigTo d 1, sigTo d 2, sigTo d 3, sigTo d 4, sigTo d 5] (payers_bar d) (sigTo_nodup d)]
    rfl
  ihave Hp := (Entails.of_eq hrest) $$ Hpay
  imod (Rounds.cell_close ER (Rd A B) (Set.mem_univ (K (d, bar))) (fun h => h) (R := 0 + 1) (duties_later A B (cell d bar))) $$ [Hat] with Hz
  · isplitr; · iapply (recs_inv A B K d bar); iexact Hr
    iexact Hat
  rw [wp_ret]; imodintro
  iapply Hk
  isplitl [Hz]; · iexact Hz
  isplitl [Hp]; · iexact Hp
  iexists _; iexact HO

end Cert.Scatter

end
-- ==== Proof.Segments.lean ====
/-
# `Segments`: what each stretch of the body does to a device's resources
-/
module

public import proofs.«01_k».proof.Proof.Steps

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (cc0_stg0_0 : Ref sig .tc).ty.Contents (Elt F)) (B : Dev nD → (cc0_stg1_0 : Ref sig .tc).ty.Contents (Elt F))
variable (K : Dev nD × Site → ℕ)

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem sep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem on_bij : ∀ z : Fin 4, Function.Bijective (on z) := by decide
omit [FloatOps F] in
/-- A family over the four planes, counted from a device's own. -/
theorem sep_on (z : Fin 4) (Φ : Fin 4 → sProp 𝕄) : bigSep Finset.univ Φ = bigSep Finset.univ fun k : Fin 4 => Φ (on z k) :=
  bigSep_univ_equiv (Equiv.ofBijective (on z) (on_bij z)) Φ

/-- The device a stage-one transfer goes to, -/
abbrev mate (d : Dev nD) (kp : Fin 3) : Dev nD := dv (pl d) (on3 (co d) kp)
/-- and a stage-two one. -/
abbrev twin (d : Dev nD) (kz : Fin 3) : Dev nD := dv (on3 (pl d) kz) (co d)

/-- The slot of its own a device fills for one plane; -/
def ownSlot (d : Dev nD) (zi : Fin 4) : sProp 𝕄 := iprop(∃ f, r1P d (on (pl d) zi) (co d) f)
/-- what it sends a stage-one transfer with; -/
def sendKit (d : Dev nD) (zi : Fin 4) (kp : Fin 3) : sProp 𝕄 :=
  iprop((∃ f, s1P d kp zi f) ∗ tok d (s1 kp zi) d ∗ tok (mate d kp) (r1 (on (pl d) zi) (co d)) d)
/-- the slot the transfer lands in; -/
def mateSlot (d : Dev nD) (zi : Fin 4) (kp : Fin 3) : sProp 𝕄 := iprop(∃ f, r1P (mate d kp) (on (pl d) zi) (co d) f)
/-- what it waits for an arrival with; -/
def arriveKit (d : Dev nD) (zi : Fin 4) (kp : Fin 3) : sProp 𝕄 :=
  iprop(fresh d (r1 (on (pl d) zi) (on3 (co d) kp)) ∗ due d (r1 (on (pl d) zi) (on3 (co d) kp)) N)
/-- what it sends a stage-two transfer with; -/
def crossKit (d : Dev nD) (kz : Fin 3) : sProp 𝕄 :=
  iprop((∃ f, s2P d kz f) ∗ tok d (s2 kz) d ∗ tok (twin d kz) (r2 (pl d)) d)
/-- the slot the transfer lands in; -/
def twinSlot (d : Dev nD) (kz : Fin 3) : sProp 𝕄 := iprop(∃ f, r2P (twin d kz) (pl d) f)
/-- what it waits for an arrival across planes with. -/
def landKit (d : Dev nD) (kz : Fin 3) : sProp 𝕄 :=
  iprop(fresh d (r2 (on3 (pl d) kz)) ∗ due d (r2 (on3 (pl d) kz)) N)

/-! ## The handshake -/

omit [FloatOps F] in
theorem lend_mate (d : Dev nD) (kp : Fin 3) : lend (F := F) (mate d kp) d = bigSep Finset.univ fun zi : Fin 4 => mateSlot d zi kp := by
  unfold lend mateSlot
  rw [if_pos (pl_dv _ _)]
  exact sep_on (pl d) fun p => iprop(∃ f, r1P (mate d kp) p (co d) f)
omit [FloatOps F] in
theorem lend_twin (d : Dev nD) (kz : Fin 3) : lend (F := F) (twin d kz) d = twinSlot d kz := by
  have h : ¬ pl (twin d kz) = pl d := by revert d kz; decide +kernel
  unfold lend twinSlot
  rw [if_neg h]
omit [FloatOps F] in
theorem lent_eq (d : Dev nD) : lent (F := F) d
    = iprop((bigSep Finset.univ fun zi : Fin 4 => mateSlot d zi 0) ∗ (bigSep Finset.univ fun zi : Fin 4 => mateSlot d zi 1)
        ∗ (bigSep Finset.univ fun zi : Fin 4 => mateSlot d zi 2) ∗ twinSlot d 0 ∗ twinSlot d 1 ∗ twinSlot d 2) := by
  rw [← lend_mate, ← lend_mate, ← lend_mate, ← lend_twin, ← lend_twin, ← lend_twin]
  rfl

theorem handshake_spec (d : Dev nD) (l : List (Dev nD × Site)) (hl : ∀ x ∈ l, 1 < rank x.2) (Q : PUnit → sProp 𝕄) :
    iprop(recs A B K ∗ fresh d bar ∗ due d bar 6 ∗ (bigSep Finset.univ fun k : Fin 6 => iprop(lend d (sigTo d k) ∗ tok (sigTo d k) bar d))
        ∗ owing d (dues0 d ++ l) ∗ ((spent d bar ∗ lent d ∗ owing d l) -∗ Q ⟨⟩))
      ⊢ wp frame (wpE (defs₀ (F := F)) 𝒱₀ (d : Thread nD τ) none) Set.univ (handshake d) Q := by
  unfold handshake dues0
  rw [sep_fin6]
  simp only [wp_bind, List.cons_append, List.nil_append]
  iintro ⟨#Hr, Hf, Hd, ⟨H0, H1, H2, H3, H4, H5⟩, HO, Hk⟩
  iapply (sig_spec A B K d 0)
  isplitr; · iexact Hr
  isplitl [H0]; · iexact H0
  isplitl [HO]; · iexact HO
  iintro HO
  iapply (sig_spec A B K d 1)
  isplitr; · iexact Hr
  isplitl [H1]; · iexact H1
  isplitl [HO]; · iexact HO
  iintro HO
  iapply (sig_spec A B K d 2)
  isplitr; · iexact Hr
  isplitl [H2]; · iexact H2
  isplitl [HO]; · iexact HO
  iintro HO
  iapply (sig_spec A B K d 3)
  isplitr; · iexact Hr
  isplitl [H3]; · iexact H3
  isplitl [HO]; · iexact HO
  iintro HO
  iapply (sig_spec A B K d 4)
  isplitr; · iexact Hr
  isplitl [H4]; · iexact H4
  isplitl [HO]; · iexact HO
  iintro HO
  iapply (sig_spec A B K d 5)
  isplitr; · iexact Hr
  isplitl [H5]; · iexact H5
  isplitl [HO]; · iexact HO
  iintro HO
  iapply (barWait_spec A B K d l hl)
  isplitr; · iexact Hr
  isplitl [Hf]; · iexact Hf
  isplitl [Hd]; · iexact Hd
  isplitl [HO]; · iexact HO
  iexact Hk

/-! ## Stage one -/

theorem plane_spec (d : Dev nD) (zi : Fin 4) (l : List (Dev nD × Site)) (Q : PUnit → sProp 𝕄) :
    iprop(recs A B K ∗ stgA A d ∗ stgB B d ∗ ownSlot d zi
        ∗ (bigSep Finset.univ fun kp : Fin 3 => sendKit d zi kp) ∗ (bigSep Finset.univ fun kp : Fin 3 => mateSlot d zi kp)
        ∗ owing d (dues1 d zi ++ l)
        ∗ ((stgA A d ∗ stgB B d ∗ r1P d (on (pl d) zi) (co d) (R1 A B d)
            ∗ (bigSep Finset.univ fun kp : Fin 3 => due d (s1 kp zi) N) ∗ owing d l) -∗ Q ⟨⟩))
      ⊢ wp frame (wpE (defs₀ (F := F)) 𝒱₀ (d : Thread nD τ) none) Set.univ (planeStep d zi) Q := by
  unfold planeStep dues1 ownSlot sendKit mateSlot
  rw [ownStep_eq, sendStep_eq, sendStep_eq, sendStep_eq, sep_fin3, sep_fin3, sep_fin3]
  simp only [wp_bind, List.cons_append, List.nil_append]
  iintro ⟨#Hr, HA, HB, Hown, ⟨⟨Hs0, Ht0, Hu0⟩, ⟨Hs1, Ht1, Hu1⟩, Hs2, Ht2, Hu2⟩, ⟨Hm0, Hm1, Hm2⟩, HO, Hk⟩
  iapply (own_spec A B d (on (pl d) zi))
  isplitl [HA]; · iexact HA
  isplitl [HB]; · iexact HB
  isplitl [Hown]; · iexact Hown
  iintro ⟨HA, HB, Hown⟩
  iapply (send_spec A B K d zi 0)
  isplitr; · iexact Hr
  isplitl [HA]; · iexact HA
  isplitl [HB]; · iexact HB
  isplitl [Hs0]; · iexact Hs0
  isplitl [Hm0]; · iexact Hm0
  isplitl [Ht0]; · iexact Ht0
  isplitl [Hu0]; · iexact Hu0
  isplitl [HO]; · iexact HO
  iintro ⟨HA, HB, Hd0, HO⟩
  iapply (send_spec A B K d zi 1)
  isplitr; · iexact Hr
  isplitl [HA]; · iexact HA
  isplitl [HB]; · iexact HB
  isplitl [Hs1]; · iexact Hs1
  isplitl [Hm1]; · iexact Hm1
  isplitl [Ht1]; · iexact Ht1
  isplitl [Hu1]; · iexact Hu1
  isplitl [HO]; · iexact HO
  iintro ⟨HA, HB, Hd1, HO⟩
  iapply (send_spec A B K d zi 2)
  isplitr; · iexact Hr
  isplitl [HA]; · iexact HA
  isplitl [HB]; · iexact HB
  isplitl [Hs2]; · iexact Hs2
  isplitl [Hm2]; · iexact Hm2
  isplitl [Ht2]; · iexact Ht2
  isplitl [Hu2]; · iexact Hu2
  isplitl [HO]; · iexact HO
  iintro ⟨HA, HB, Hd2, HO⟩
  iapply Hk
  isplitl [HA]; · iexact HA
  isplitl [HB]; · iexact HB
  isplitl [Hown]; · iexact Hown
  isplitl [Hd0 Hd1 Hd2]
  · isplitl [Hd0]; · iexact Hd0
    isplitl [Hd1]; · iexact Hd1
    iexact Hd2
  iexact HO

theorem arrive_spec (d : Dev nD) (zi : Fin 4) (kp : Fin 3) (l : List (Dev nD × Site)) (hl : ∀ x ∈ l, 2 < rank x.2) (Q : PUnit → sProp 𝕄) :
    iprop(recs A B K ∗ arriveKit d zi kp ∗ owing d l
        ∗ ((spent d (r1 (on (pl d) zi) (on3 (co d) kp)) ∗ r1P d (on (pl d) zi) (on3 (co d) kp) (R1 A B d) ∗ owing d l) -∗ Q ⟨⟩))
      ⊢ wp frame (wpE (defs₀ (F := F)) 𝒱₀ (d : Thread nD τ) none) Set.univ (recv1Step d zi kp) Q := by
  have hp : payers d (r1 (on (pl d) zi) (on3 (co d) kp)) = {dv (pl d) (on3 (co d) kp)} := by revert d zi kp; decide +kernel
  unfold arriveKit
  rw [recv1Step_eq]
  unfold recv1At
  iintro ⟨#Hr, ⟨Hf, Hd⟩, HO, Hk⟩
  iapply (wait_spec A B K d (dv (pl d) (on3 (co d) kp)) (r1 (on (pl d) zi) (on3 (co d) kp)) (r1Sem (on (pl d) zi) (on3 (co d) kp)) rfl hp rfl l hl (r1_credit _ _))
  isplitr; · iexact Hr
  isplitl [Hf]; · iexact Hf
  isplitl [Hd]; · iexact Hd
  isplitl [HO]; · iexact HO
  iexact Hk

theorem co_split : ∀ c : Fin 4, (Finset.univ : Finset (Fin 4)) = [c, on3 c 0, on3 c 1, on3 c 2].toFinset := by decide
theorem co_nodup : ∀ c : Fin 4, [c, on3 c 0, on3 c 1, on3 c 2].Nodup := by decide
omit [FloatOps F] in
/-- A family over four places, a given place first. -/
theorem sep_from (c : Fin 4) (Φ : Fin 4 → sProp 𝕄) :
    bigSep Finset.univ Φ = iprop(Φ c ∗ Φ (on3 c 0) ∗ Φ (on3 c 1) ∗ Φ (on3 c 2)) :=
  bigSep_univ_eq_bigSepL [c, on3 c 0, on3 c 1, on3 c 2] (co_split c) (co_nodup c) Φ

theorem row_from (d : Dev nD) (zi : Fin 4) : row A B d (on (pl d) zi)
    = iprop(r1P d (on (pl d) zi) (co d) (R1 A B d) ∗ r1P d (on (pl d) zi) (on3 (co d) 0) (R1 A B d)
        ∗ r1P d (on (pl d) zi) (on3 (co d) 1) (R1 A B d) ∗ r1P d (on (pl d) zi) (on3 (co d) 2) (R1 A B d)) :=
  sep_from (co d) fun q => r1P d (on (pl d) zi) q (R1 A B d)

/-- One plane's three arrivals. -/
theorem arrivals_spec (d : Dev nD) (zi : Fin 4) (l : List (Dev nD × Site)) (hl : ∀ x ∈ l, 2 < rank x.2) (Q : PUnit → sProp 𝕄) :
    iprop(recs A B K ∗ (bigSep Finset.univ fun kp : Fin 3 => arriveKit d zi kp) ∗ r1P d (on (pl d) zi) (co d) (R1 A B d) ∗ owing d l
        ∗ (((bigSep Finset.univ fun kp : Fin 3 => spent d (r1 (on (pl d) zi) (on3 (co d) kp))) ∗ row A B d (on (pl d) zi) ∗ owing d l) -∗ Q ⟨⟩))
      ⊢ wp frame (wpE (defs₀ (F := F)) 𝒱₀ (d : Thread nD τ) none) Set.univ (recv1Step d zi 0) fun _ =>
          wp frame (wpE (defs₀ (F := F)) 𝒱₀ (d : Thread nD τ) none) Set.univ (recv1Step d zi 1) fun _ =>
          wp frame (wpE (defs₀ (F := F)) 𝒱₀ (d : Thread nD τ) none) Set.univ (recv1Step d zi 2) Q := by
  rw [row_from, sep_fin3, sep_fin3]
  iintro ⟨#Hr, ⟨Ha0, Ha1, Ha2⟩, Hown, HO, Hk⟩
  iapply (arrive_spec A B K d zi 0 l hl)
  isplitr; · iexact Hr
  isplitl [Ha0]; · iexact Ha0
  isplitl [HO]; · iexact HO
  iintro ⟨Hv0, Hs0, HO⟩
  iapply (arrive_spec A B K d zi 1 l hl)
  isplitr; · iexact Hr
  isplitl [Ha1]; · iexact Ha1
  isplitl [HO]; · iexact HO
  iintro ⟨Hv1, Hs1, HO⟩
  iapply (arrive_spec A B K d zi 2 l hl)
  isplitr; · iexact Hr
  isplitl [Ha2]; · iexact Ha2
  isplitl [HO]; · iexact HO
  iintro ⟨Hv2, Hs2, HO⟩
  iapply Hk
  isplitl [Hv0 Hv1 Hv2]
  · isplitl [Hv0]; · iexact Hv0
    isplitl [Hv1]; · iexact Hv1
    iexact Hv2
  isplitl [Hown Hs0 Hs1 Hs2]
  · isplitl [Hown]; · iexact Hown
    isplitl [Hs0]; · iexact Hs0
    isplitl [Hs1]; · iexact Hs1
    iexact Hs2
  iexact HO

/-! ## Stage two -/

theorem cross_spec (d : Dev nD) (kz : Fin 3) (l : List (Dev nD × Site)) (hl : ∀ x ∈ l, 2 < rank x.2) (Q : PUnit → sProp 𝕄) :
    iprop(recs A B K ∗ (bigSep Finset.univ fun kp : Fin 3 => arriveKit d kz.castSucc kp)
        ∗ r1P d (on (pl d) kz.castSucc) (co d) (R1 A B d) ∗ crossKit d kz ∗ twinSlot d kz ∗ owing d ((twin d kz, r2 (pl d)) :: l)
        ∗ (((bigSep Finset.univ fun kp : Fin 3 => spent d (r1 (on (pl d) kz.castSucc) (on3 (co d) kp)))
            ∗ row A B d (on (pl d) kz.castSucc) ∗ due d (s2 kz) N ∗ owing d l) -∗ Q ⟨⟩))
      ⊢ wp frame (wpE (defs₀ (F := F)) 𝒱₀ (d : Thread nD τ) none) Set.univ (crossStep d kz) Q := by
  have hl' : ∀ x ∈ (twin d kz, r2 (pl d)) :: l, 2 < rank x.2 := fun x hx => by
    rcases List.mem_cons.mp hx with rfl | hx
    · exact Nat.lt_succ_self 2
    · exact hl x hx
  unfold crossKit twinSlot
  rw [crossStep_eq]
  simp only [wp_bind]
  iintro ⟨#Hr, Ha, Hown, ⟨Hs, Ht, Hu⟩, Hm, HO, Hk⟩
  iapply (arrivals_spec A B K d kz.castSucc _ hl')
  isplitr; · iexact Hr
  isplitl [Ha]; · iexact Ha
  isplitl [Hown]; · iexact Hown
  isplitl [HO]; · iexact HO
  iintro ⟨Hv, Hrow, HO⟩
  iapply (sum_spec A B d kz)
  isplitl [Hrow]; · iexact Hrow
  isplitl [Hs]; · iexact Hs
  iintro ⟨Hrow, Hs⟩
  iapply (across_spec A B K d kz l)
  isplitr; · iexact Hr
  isplitl [Hs]; · iexact Hs
  isplitl [Hm]; · iexact Hm
  isplitl [Ht]; · iexact Ht
  isplitl [Hu]; · iexact Hu
  isplitl [HO]; · iexact HO
  iintro ⟨Hd, HO⟩
  iapply Hk
  isplitl [Hv]; · iexact Hv
  isplitl [Hrow]; · iexact Hrow
  isplitl [Hd]; · iexact Hd
  iexact HO

theorem keepStep_spec (d : Dev nD) (Q : PUnit → sProp 𝕄) :
    iprop(recs A B K ∗ (bigSep Finset.univ fun kp : Fin 3 => arriveKit d 3 kp)
        ∗ r1P d (on (pl d) 3) (co d) (R1 A B d) ∗ (∃ f, r2P d (pl d) f) ∗ owing d []
        ∗ (((bigSep Finset.univ fun kp : Fin 3 => spent d (r1 (on (pl d) 3) (on3 (co d) kp)))
            ∗ row A B d (on (pl d) 3) ∗ r2P d (pl d) (R2 A B d) ∗ owing d []) -∗ Q ⟨⟩))
      ⊢ wp frame (wpE (defs₀ (F := F)) 𝒱₀ (d : Thread nD τ) none) Set.univ (keepStep d) Q := by
  rw [keepStep_eq]
  simp only [wp_bind]
  iintro ⟨#Hr, Ha, Hown, Hs, HO, Hk⟩
  iapply (arrivals_spec A B K d 3 [] (fun x hx => absurd hx List.not_mem_nil))
  isplitr; · iexact Hr
  isplitl [Ha]; · iexact Ha
  isplitl [Hown]; · iexact Hown
  isplitl [HO]; · iexact HO
  iintro ⟨Hv, Hrow, HO⟩
  rw [on_three]
  iapply (keep_spec A B d)
  isplitl [Hrow]; · iexact Hrow
  isplitl [Hs]; · iexact Hs
  iintro ⟨Hrow, Hs⟩
  iapply Hk
  isplitl [Hv]; · iexact Hv
  isplitl [Hrow]; · iexact Hrow
  isplitl [Hs]; · iexact Hs
  iexact HO

theorem land_spec (d : Dev nD) (kz : Fin 3) (Q : PUnit → sProp 𝕄) :
    iprop(recs A B K ∗ landKit d kz ∗ owing d []
        ∗ ((spent d (r2 (on3 (pl d) kz)) ∗ r2P d (on3 (pl d) kz) (R2 A B d) ∗ owing d []) -∗ Q ⟨⟩))
      ⊢ wp frame (wpE (defs₀ (F := F)) 𝒱₀ (d : Thread nD τ) none) Set.univ (recv2Step d kz) Q := by
  have hp : payers d (r2 (on3 (pl d) kz)) = {dv (on3 (pl d) kz) (co d)} := by revert d kz; decide +kernel
  unfold landKit
  rw [recv2Step_eq]
  unfold recv2At
  iintro ⟨#Hr, ⟨Hf, Hd⟩, HO, Hk⟩
  iapply (wait_spec A B K d (dv (on3 (pl d) kz) (co d)) (r2 (on3 (pl d) kz)) (r2Sem (on3 (pl d) kz)) rfl hp rfl [] (fun x hx => absurd hx List.not_mem_nil) (r2_credit _))
  isplitr; · iexact Hr
  isplitl [Hf]; · iexact Hf
  isplitl [Hd]; · iexact Hd
  isplitl [HO]; · iexact HO
  iexact Hk

theorem left1_spec (d : Dev nD) (zi : Fin 4) (kp : Fin 3) (Q : PUnit → sProp 𝕄) :
    iprop(recs A B K ∗ fresh d (s1 kp zi) ∗ due d (s1 kp zi) N ∗ owing d []
        ∗ ((spent d (s1 kp zi) ∗ s1P d kp zi (S1 A B d) ∗ owing d []) -∗ Q ⟨⟩))
      ⊢ wp frame (wpE (defs₀ (F := F)) 𝒱₀ (d : Thread nD τ) none) Set.univ (left1Step d zi kp) Q := by
  rw [left1Step_eq]
  unfold left1At
  exact wait_spec A B K d d (s1 kp zi) (s1Sem kp zi) rfl rfl rfl [] (fun x hx => absurd hx List.not_mem_nil) (s1_credit _ _) Q

theorem left1Plane_spec (d : Dev nD) (zi : Fin 4) (Q : PUnit → sProp 𝕄) :
    iprop(recs A B K ∗ (bigSep Finset.univ fun kp : Fin 3 => fresh d (s1 kp zi)) ∗ (bigSep Finset.univ fun kp : Fin 3 => due d (s1 kp zi) N) ∗ owing d []
        ∗ (((bigSep Finset.univ fun kp : Fin 3 => spent d (s1 kp zi)) ∗ (bigSep Finset.univ fun kp : Fin 3 => s1P d kp zi (S1 A B d)) ∗ owing d []) -∗ Q ⟨⟩))
      ⊢ wp frame (wpE (defs₀ (F := F)) 𝒱₀ (d : Thread nD τ) none) Set.univ (left1Plane d zi) Q := by
  unfold left1Plane
  rw [sep_fin3, sep_fin3, sep_fin3, sep_fin3]
  simp only [wp_bind]
  iintro ⟨#Hr, ⟨Hf0, Hf1, Hf2⟩, ⟨Hd0, Hd1, Hd2⟩, HO, Hk⟩
  iapply (left1_spec A B K d zi 0)
  isplitr; · iexact Hr
  isplitl [Hf0]; · iexact Hf0
  isplitl [Hd0]; · iexact Hd0
  isplitl [HO]; · iexact HO
  iintro ⟨Hv0, Hs0, HO⟩
  iapply (left1_spec A B K d zi 1)
  isplitr; · iexact Hr
  isplitl [Hf1]; · iexact Hf1
  isplitl [Hd1]; · iexact Hd1
  isplitl [HO]; · iexact HO
  iintro ⟨Hv1, Hs1, HO⟩
  iapply (left1_spec A B K d zi 2)
  isplitr; · iexact Hr
  isplitl [Hf2]; · iexact Hf2
  isplitl [Hd2]; · iexact Hd2
  isplitl [HO]; · iexact HO
  iintro ⟨Hv2, Hs2, HO⟩
  iapply Hk
  isplitl [Hv0 Hv1 Hv2]
  · isplitl [Hv0]; · iexact Hv0
    isplitl [Hv1]; · iexact Hv1
    iexact Hv2
  isplitl [Hs0 Hs1 Hs2]
  · isplitl [Hs0]; · iexact Hs0
    isplitl [Hs1]; · iexact Hs1
    iexact Hs2
  iexact HO

theorem left2_spec (d : Dev nD) (kz : Fin 3) (Q : PUnit → sProp 𝕄) :
    iprop(recs A B K ∗ fresh d (s2 kz) ∗ due d (s2 kz) N ∗ owing d []
        ∗ ((spent d (s2 kz) ∗ s2P d kz (S2 A B d) ∗ owing d []) -∗ Q ⟨⟩))
      ⊢ wp frame (wpE (defs₀ (F := F)) 𝒱₀ (d : Thread nD τ) none) Set.univ (left2Step d kz) Q := by
  rw [left2Step_eq]
  unfold left2At
  exact wait_spec A B K d d (s2 kz) (s2Sem kz) rfl rfl rfl [] (fun x hx => absurd hx List.not_mem_nil) (s2_credit _) Q

end Cert.Scatter

end
-- ==== Proof.Body.lean ====
/-
# `Body`: what the whole body does to a device's resources
-/
module

public import proofs.«01_k».proof.Proof.Segments

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (cc0_stg0_0 : Ref sig .tc).ty.Contents (Elt F)) (B : Dev nD → (cc0_stg1_0 : Ref sig .tc).ty.Contents (Elt F))
variable (K : Dev nD × Site → ℕ)

/-- What a device runs the body with, beside its staged operands: its cells and the units due at them, its rights to
pay, and its slots. -/
def bodyKit (d : Dev nD) : sProp 𝕄 :=
  iprop(fresh d bar
    ∗ due d bar 6
    ∗ (bigSep Finset.univ fun k : Fin 6 => iprop(lend d (sigTo d k) ∗ tok (sigTo d k) bar d))
    ∗ (bigSep Finset.univ fun zi : Fin 4 => ownSlot d zi)
    ∗ (bigSep Finset.univ fun zi : Fin 4 => bigSep Finset.univ fun kp : Fin 3 => sendKit d zi kp)
    ∗ (bigSep Finset.univ fun zi : Fin 4 => bigSep Finset.univ fun kp : Fin 3 => arriveKit d zi kp)
    ∗ (bigSep Finset.univ fun kz : Fin 3 => crossKit d kz)
    ∗ (∃ f, r2P d (pl d) f)
    ∗ (bigSep Finset.univ fun kz : Fin 3 => landKit d kz)
    ∗ (bigSep Finset.univ fun zi : Fin 4 => bigSep Finset.univ fun kp : Fin 3 => fresh d (s1 kp zi))
    ∗ (bigSep Finset.univ fun kz : Fin 3 => fresh d (s2 kz)))

/-- What it holds after: its cells done with, and its buffers filled. -/
def bodyOut (d : Dev nD) : sProp 𝕄 :=
  iprop(spent d bar
    ∗ (bigSep Finset.univ fun zi : Fin 4 => bigSep Finset.univ fun kp : Fin 3 => spent d (r1 (on (pl d) zi) (on3 (co d) kp)))
    ∗ (bigSep Finset.univ fun zi : Fin 4 => row A B d (on (pl d) zi))
    ∗ (bigSep Finset.univ fun kz : Fin 3 => spent d (r2 (on3 (pl d) kz)))
    ∗ landing2 A B d
    ∗ (bigSep Finset.univ fun zi : Fin 4 => bigSep Finset.univ fun kp : Fin 3 => spent d (s1 kp zi))
    ∗ (bigSep Finset.univ fun zi : Fin 4 => bigSep Finset.univ fun kp : Fin 3 => s1P d kp zi (S1 A B d))
    ∗ (bigSep Finset.univ fun kz : Fin 3 => spent d (s2 kz))
    ∗ (bigSep Finset.univ fun kz : Fin 3 => s2P d kz (S2 A B d)))

theorem later_ranks : ∀ (d : Dev nD), ∀ x ∈ dues1 d 0 ++ (dues1 d 1 ++ (dues1 d 2 ++ (dues1 d 3 ++ dues2 d))), 1 < rank x.2 := by decide +kernel
theorem last_ranks : ∀ (d : Dev nD), ∀ x ∈ dues2 d, 2 < rank x.2 := by decide +kernel

theorem landing2_from (d : Dev nD) : landing2 A B d
    = iprop(r2P d (pl d) (R2 A B d) ∗ r2P d (on3 (pl d) 0) (R2 A B d) ∗ r2P d (on3 (pl d) 1) (R2 A B d) ∗ r2P d (on3 (pl d) 2) (R2 A B d)) :=
  sep_from (pl d) fun p => r2P d p (R2 A B d)

omit [FloatOps F] in
theorem sep_swap {α β : Type} [Fintype α] [Fintype β] (Φ : α → β → sProp 𝕄) :
    (bigSep Finset.univ fun a => bigSep Finset.univ fun b => Φ a b) = bigSep Finset.univ fun b => bigSep Finset.univ fun a => Φ a b :=
  (bigSep_univ_prod fun x : α × β => Φ x.1 x.2).symm.trans
    ((bigSep_univ_equiv (Equiv.prodComm β α) fun x : α × β => Φ x.1 x.2).trans (bigSep_univ_prod fun x : β × α => Φ x.2 x.1))

omit [FloatOps F] in
/-- The slots the handshake brings, plane by plane. -/
theorem lent_mates (d : Dev nD) : lent (F := F) d
    ⊢ iprop(((bigSep Finset.univ fun kp : Fin 3 => mateSlot d 0 kp) ∗ (bigSep Finset.univ fun kp : Fin 3 => mateSlot d 1 kp)
        ∗ (bigSep Finset.univ fun kp : Fin 3 => mateSlot d 2 kp) ∗ (bigSep Finset.univ fun kp : Fin 3 => mateSlot d 3 kp))
        ∗ twinSlot d 0 ∗ twinSlot d 1 ∗ twinSlot d 2) := by
  rw [← sep_fin4 (fun zi => bigSep Finset.univ fun kp : Fin 3 => mateSlot (F := F) d zi kp), sep_swap, sep_fin3, lent_eq]
  iintro ⟨H0, H1, H2, H3⟩
  isplitl [H0 H1 H2]
  · isplitl [H0]; · iexact H0
    isplitl [H1]; · iexact H1
    iexact H2
  iexact H3

theorem plan_spec (d : Dev nD) (Q : PUnit → sProp 𝕄) :
    iprop(recs A B K ∗ stgA A d ∗ stgB B d ∗ (∃ f, stgO d f) ∗ bodyKit d ∗ owing d (dues d)
        ∗ ((stgA A d ∗ stgB B d ∗ stgO d (res A B d) ∗ bodyOut A B d ∗ owing d []) -∗ Q ⟨⟩))
      ⊢ wp frame (wpE (defs₀ (F := F)) 𝒱₀ (d : Thread nD τ) none) Set.univ (plan d) Q := by
  have h2 := last_ranks d
  unfold plan bodyKit bodyOut dues
  simp only [wp_bind]
  simp only [sep_fin4, sep_fin3 (fun kz : Fin 3 => crossKit (F := F) d kz), sep_fin3 (fun kz : Fin 3 => landKit (F := F) d kz),
    sep_fin3 (fun kz : Fin 3 => fresh (F := F) d (s2 kz)), sep_fin3 (fun kz : Fin 3 => spent (F := F) d (r2 (on3 (pl d) kz))),
    sep_fin3 (fun kz : Fin 3 => spent (F := F) d (s2 kz)), sep_fin3 (fun kz : Fin 3 => s2P d kz (S2 A B d))]
  iintro ⟨#Hr, HA, HB, HS, ⟨Hbar, Hbd, Hsig, ⟨Ho0, Ho1, Ho2, Ho3⟩, ⟨Hk0, Hk1, Hk2, Hk3⟩, ⟨Ha0, Ha1, Ha2, Ha3⟩, ⟨Hx0, Hx1, Hx2⟩, Hkeep, ⟨Hl0, Hl1, Hl2⟩, ⟨Hf0, Hf1, Hf2, Hf3⟩, ⟨Hg0, Hg1, Hg2⟩⟩, HO, Hk⟩
  iapply (handshake_spec A B K d _ (later_ranks d))
  isplitr; · iexact Hr
  isplitl [Hbar]; · iexact Hbar
  isplitl [Hbd]; · iexact Hbd
  isplitl [Hsig]; · iexact Hsig
  isplitl [HO]; · iexact HO
  iintro ⟨Hbar, Hlent, HO⟩
  ihave Hlent := (lent_mates (F := F) d) $$ Hlent
  icases Hlent with ⟨⟨Hm0, Hm1, Hm2, Hm3⟩, Ht0, Ht1, Ht2⟩
  iapply (plane_spec A B K d 0)
  isplitr; · iexact Hr
  isplitl [HA]; · iexact HA
  isplitl [HB]; · iexact HB
  isplitl [Ho0]; · iexact Ho0
  isplitl [Hk0]; · iexact Hk0
  isplitl [Hm0]; · iexact Hm0
  isplitl [HO]; · iexact HO
  iintro ⟨HA, HB, Ho0, Hd0, HO⟩
  iapply (plane_spec A B K d 1)
  isplitr; · iexact Hr
  isplitl [HA]; · iexact HA
  isplitl [HB]; · iexact HB
  isplitl [Ho1]; · iexact Ho1
  isplitl [Hk1]; · iexact Hk1
  isplitl [Hm1]; · iexact Hm1
  isplitl [HO]; · iexact HO
  iintro ⟨HA, HB, Ho1, Hd1, HO⟩
  iapply (plane_spec A B K d 2)
  isplitr; · iexact Hr
  isplitl [HA]; · iexact HA
  isplitl [HB]; · iexact HB
  isplitl [Ho2]; · iexact Ho2
  isplitl [Hk2]; · iexact Hk2
  isplitl [Hm2]; · iexact Hm2
  isplitl [HO]; · iexact HO
  iintro ⟨HA, HB, Ho2, Hd2, HO⟩
  iapply (plane_spec A B K d 3)
  isplitr; · iexact Hr
  isplitl [HA]; · iexact HA
  isplitl [HB]; · iexact HB
  isplitl [Ho3]; · iexact Ho3
  isplitl [Hk3]; · iexact Hk3
  isplitl [Hm3]; · iexact Hm3
  isplitl [HO]; · iexact HO
  iintro ⟨HA, HB, Ho3, Hd3, HO⟩
  unfold dues2 at h2 ⊢
  iapply (cross_spec A B K d 0 [(twin d 1, r2 (pl d)), (twin d 2, r2 (pl d))] (fun x hx => h2 x (by simp only [List.mem_cons] at hx ⊢; tauto)))
  isplitr; · iexact Hr
  isplitl [Ha0]; · iexact Ha0
  isplitl [Ho0]; · iexact Ho0
  isplitl [Hx0]; · iexact Hx0
  isplitl [Ht0]; · iexact Ht0
  isplitl [HO]; · iexact HO
  iintro ⟨Hv0, Hr0, He0, HO⟩
  iapply (cross_spec A B K d 1 [(twin d 2, r2 (pl d))] (fun x hx => h2 x (by simp only [List.mem_cons] at hx ⊢; tauto)))
  isplitr; · iexact Hr
  isplitl [Ha1]; · iexact Ha1
  isplitl [Ho1]; · iexact Ho1
  isplitl [Hx1]; · iexact Hx1
  isplitl [Ht1]; · iexact Ht1
  isplitl [HO]; · iexact HO
  iintro ⟨Hv1, Hr1, He1, HO⟩
  iapply (cross_spec A B K d 2 [] (fun x hx => absurd hx List.not_mem_nil))
  isplitr; · iexact Hr
  isplitl [Ha2]; · iexact Ha2
  isplitl [Ho2]; · iexact Ho2
  isplitl [Hx2]; · iexact Hx2
  isplitl [Ht2]; · iexact Ht2
  isplitl [HO]; · iexact HO
  iintro ⟨Hv2, Hr2, He2, HO⟩
  iapply (keepStep_spec A B K d)
  isplitr; · iexact Hr
  isplitl [Ha3]; · iexact Ha3
  isplitl [Ho3]; · iexact Ho3
  isplitl [Hkeep]; · iexact Hkeep
  isplitl [HO]; · iexact HO
  iintro ⟨Hv3, Hr3, Hkeep, HO⟩
  iapply (land_spec A B K d 0)
  isplitr; · iexact Hr
  isplitl [Hl0]; · iexact Hl0
  isplitl [HO]; · iexact HO
  iintro ⟨Hw0, Hl0, HO⟩
  iapply (land_spec A B K d 1)
  isplitr; · iexact Hr
  isplitl [Hl1]; · iexact Hl1
  isplitl [HO]; · iexact HO
  iintro ⟨Hw1, Hl1, HO⟩
  iapply (land_spec A B K d 2)
  isplitr; · iexact Hr
  isplitl [Hl2]; · iexact Hl2
  isplitl [HO]; · iexact HO
  iintro ⟨Hw2, Hl2, HO⟩
  iapply (left1Plane_spec A B K d 0)
  isplitr; · iexact Hr
  isplitl [Hf0]; · iexact Hf0
  isplitl [Hd0]; · iexact Hd0
  isplitl [HO]; · iexact HO
  iintro ⟨Hp0, Hb0, HO⟩
  iapply (left1Plane_spec A B K d 1)
  isplitr; · iexact Hr
  isplitl [Hf1]; · iexact Hf1
  isplitl [Hd1]; · iexact Hd1
  isplitl [HO]; · iexact HO
  iintro ⟨Hp1, Hb1, HO⟩
  iapply (left1Plane_spec A B K d 2)
  isplitr; · iexact Hr
  isplitl [Hf2]; · iexact Hf2
  isplitl [Hd2]; · iexact Hd2
  isplitl [HO]; · iexact HO
  iintro ⟨Hp2, Hb2, HO⟩
  iapply (left1Plane_spec A B K d 3)
  isplitr; · iexact Hr
  isplitl [Hf3]; · iexact Hf3
  isplitl [Hd3]; · iexact Hd3
  isplitl [HO]; · iexact HO
  iintro ⟨Hp3, Hb3, HO⟩
  iapply (left2_spec A B K d 0)
  isplitr; · iexact Hr
  isplitl [Hg0]; · iexact Hg0
  isplitl [He0]; · iexact He0
  isplitl [HO]; · iexact HO
  iintro ⟨Hy0, Hc0, HO⟩
  iapply (left2_spec A B K d 1)
  isplitr; · iexact Hr
  isplitl [Hg1]; · iexact Hg1
  isplitl [He1]; · iexact He1
  isplitl [HO]; · iexact HO
  iintro ⟨Hy1, Hc1, HO⟩
  iapply (left2_spec A B K d 2)
  isplitr; · iexact Hr
  isplitl [Hg2]; · iexact Hg2
  isplitl [He2]; · iexact He2
  isplitl [HO]; · iexact HO
  iintro ⟨Hy2, Hc2, HO⟩
  iapply (out_spec A B d)
  isplitl [Hkeep Hl0 Hl1 Hl2]
  · rw [landing2_from]
    isplitl [Hkeep]; · iexact Hkeep
    isplitl [Hl0]; · iexact Hl0
    isplitl [Hl1]; · iexact Hl1
    iexact Hl2
  isplitl [HS]; · iexact HS
  iintro ⟨Hland, HS⟩
  iapply Hk
  isplitl [HA]; · iexact HA
  isplitl [HB]; · iexact HB
  isplitl [HS]; · iexact HS
  isplitr [HO]
  swap; · iexact HO
  isplitl [Hbar]; · iexact Hbar
  isplitl [Hv0 Hv1 Hv2 Hv3]
  · isplitl [Hv0]; · iexact Hv0
    isplitl [Hv1]; · iexact Hv1
    isplitl [Hv2]; · iexact Hv2
    iexact Hv3
  isplitl [Hr0 Hr1 Hr2 Hr3]
  · isplitl [Hr0]; · iexact Hr0
    isplitl [Hr1]; · iexact Hr1
    isplitl [Hr2]; · iexact Hr2
    iexact Hr3
  isplitl [Hw0 Hw1 Hw2]
  · isplitl [Hw0]; · iexact Hw0
    isplitl [Hw1]; · iexact Hw1
    iexact Hw2
  isplitl [Hland]; · iexact Hland
  isplitl [Hp0 Hp1 Hp2 Hp3]
  · isplitl [Hp0]; · iexact Hp0
    isplitl [Hp1]; · iexact Hp1
    isplitl [Hp2]; · iexact Hp2
    iexact Hp3
  isplitl [Hb0 Hb1 Hb2 Hb3]
  · isplitl [Hb0]; · iexact Hb0
    isplitl [Hb1]; · iexact Hb1
    isplitl [Hb2]; · iexact Hb2
    iexact Hb3
  isplitl [Hy0 Hy1 Hy2]
  · isplitl [Hy0]; · iexact Hy0
    isplitl [Hy1]; · iexact Hy1
    iexact Hy2
  isplitl [Hc0]; · iexact Hc0
  isplitl [Hc1]; · iexact Hc1
  iexact Hc2

end Cert.Scatter

end
-- ==== Proof.Deal.lean ====
/-
# `Deal`: how the launch's cells, rights, credits and buffers make up what a device runs the body with
-/
module

public import proofs.«01_k».proof.Proof.Body

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (cc0_stg0_0 : Ref sig .tc).ty.Contents (Elt F)) (B : Dev nD → (cc0_stg1_0 : Ref sig .tc).ty.Contents (Elt F))
variable (K : Dev nD × Site → ℕ)

/-! ## A device's cells -/

omit [FloatOps F] in
theorem sep_from3 (c : Fin 4) (Φ : Fin 4 → sProp 𝕄) :
    bigSep Finset.univ Φ = iprop(Φ c ∗ bigSep Finset.univ fun k : Fin 3 => Φ (on3 c k)) := by
  rw [sep_from c, sep_fin3]
omit [FloatOps F] in
theorem sep_unit (Φ : Unit → sProp 𝕄) : bigSep Finset.univ Φ = Φ () :=
  bigSep_univ_eq_bigSepL [()] (by decide) (by decide) Φ

omit [FloatOps F] in
/-- A family over the landing slots of stage one, counted from a device's own place: its own slots, then its mates'. -/
theorem sep_grid (z c : Fin 4) (Φ : Fin 4 → Fin 4 → sProp 𝕄) :
    (bigSep Finset.univ fun p => bigSep Finset.univ fun q => Φ p q)
      = iprop((bigSep Finset.univ fun zi : Fin 4 => Φ (on z zi) c) ∗ bigSep Finset.univ fun zi : Fin 4 => bigSep Finset.univ fun kp : Fin 3 => Φ (on z zi) (on3 c kp)) := by
  rw [sep_on z, bigSep_congr fun zi _ => sep_from3 c (Φ (on z zi)), bigSep_sep']

omit [FloatOps F] in
/-- A family over a device's cells, in the order its body meets them. -/
theorem sites_eq (d : Dev nD) (Φ : Site → sProp 𝕄) : bigSep Finset.univ Φ
    = iprop(Φ bar ∗ (bigSep Finset.univ fun zi : Fin 4 => bigSep Finset.univ fun kp : Fin 3 => Φ (s1 kp zi))
        ∗ ((bigSep Finset.univ fun zi : Fin 4 => Φ (r1 (on (pl d) zi) (co d)))
          ∗ bigSep Finset.univ fun zi : Fin 4 => bigSep Finset.univ fun kp : Fin 3 => Φ (r1 (on (pl d) zi) (on3 (co d) kp)))
        ∗ (bigSep Finset.univ fun kz : Fin 3 => Φ (s2 kz))
        ∗ (Φ (r2 (pl d)) ∗ bigSep Finset.univ fun kz : Fin 3 => Φ (r2 (on3 (pl d) kz)))) := by
  rw [← sep_from3 (pl d) (fun p => Φ (r2 p)), ← sep_grid (pl d) (co d) (fun p q => Φ (r1 p q)), sep_swap (fun zi kp => Φ (s1 kp zi)),
    ← bigSep_univ_prod (fun x : Fin 3 × Fin 4 => Φ (s1 x.1 x.2)), ← bigSep_univ_prod (fun x : Fin 4 × Fin 4 => Φ (r1 x.1 x.2)),
    bigSep_univ_sum, bigSep_univ_sum, bigSep_univ_sum, bigSep_univ_sum, sep_unit]
  rfl

/-! ## A device's buffers -/

omit [FloatOps F] in
theorem s1_whole (d : Dev nD) (f : (cc0_scratch0 : Ref sig .tc).ty.Contents (Elt F)) :
    (bigSep Finset.univ fun zi : Fin 4 => bigSep Finset.univ fun kp : Fin 3 => s1P d kp zi f) = (((d : Thread nD τ).loc cc0_scratch0) ↦{fullShare} f : sProp 𝕄) := by
  rw [sep_swap, ← bigSep_univ_prod (fun x : Fin 3 × Fin 4 => s1P d x.1 x.2 f)]
  exact slots_join ((d : Thread nD τ).loc cc0_scratch0) Finset.univ (fun t : Fin 3 × Fin 4 => (s1R t.1 t.2).set) Finset.univ f s1_disj fun i =>
    ⟨fun _ => ⟨((i 0 : Fin 3), (i 1 : Fin 4)), Finset.mem_univ _, (mem_s1R _ _ i).mpr ⟨rfl, rfl⟩⟩, fun _ => Finset.mem_univ _⟩
omit [FloatOps F] in
theorem r1_whole (d : Dev nD) (f : (cc0_scratch1 : Ref sig .tc).ty.Contents (Elt F)) :
    (bigSep Finset.univ fun p : Fin 4 => bigSep Finset.univ fun q : Fin 4 => r1P d p q f) = (((d : Thread nD τ).loc cc0_scratch1) ↦{fullShare} f : sProp 𝕄) := by
  rw [← bigSep_univ_prod (fun x : Fin 4 × Fin 4 => r1P d x.1 x.2 f)]
  exact slots_join ((d : Thread nD τ).loc cc0_scratch1) Finset.univ (fun t : Fin 4 × Fin 4 => (r1R t.1 t.2).set) Finset.univ f r1_disj fun i =>
    ⟨fun _ => ⟨((i 0 : Fin 4), (i 1 : Fin 4)), Finset.mem_univ _, (mem_r1R _ _ i).mpr ⟨rfl, rfl⟩⟩, fun _ => Finset.mem_univ _⟩
omit [FloatOps F] in
theorem s2_whole (d : Dev nD) (f : (cc0_scratch2 : Ref sig .tc).ty.Contents (Elt F)) :
    (bigSep Finset.univ fun kz : Fin 3 => s2P d kz f) = (((d : Thread nD τ).loc cc0_scratch2) ↦{fullShare} f : sProp 𝕄) :=
  slots_join ((d : Thread nD τ).loc cc0_scratch2) Finset.univ (fun t : Fin 3 => (s2R t).set) Finset.univ f s2_disj fun i =>
    ⟨fun _ => ⟨(i 0 : Fin 3), Finset.mem_univ _, (mem_s2R _ i).mpr rfl⟩, fun _ => Finset.mem_univ _⟩
omit [FloatOps F] in
theorem r2_whole (d : Dev nD) (f : (cc0_scratch3 : Ref sig .tc).ty.Contents (Elt F)) :
    (bigSep Finset.univ fun p : Fin 4 => r2P d p f) = (((d : Thread nD τ).loc cc0_scratch3) ↦{fullShare} f : sProp 𝕄) :=
  slots_join ((d : Thread nD τ).loc cc0_scratch3) Finset.univ (fun t : Fin 4 => (r2R t).set) Finset.univ f r2_disj fun i =>
    ⟨fun _ => ⟨(i 0 : Fin 4), Finset.mem_univ _, (mem_r2R _ i).mpr rfl⟩, fun _ => Finset.mem_univ _⟩

/-- The four scratch buffers, whatever they hold. -/
def scratch (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f))

omit [FloatOps F] in
theorem some_one {V : Type} (Φ : V → sProp 𝕄) (f : V) : Φ f ⊢ iprop(∃ g, Φ g) := by
  iintro H
  iexists f; iexact H
omit [FloatOps F] in
theorem some_each {I : Type} [DecidableEq I] {V : Type} (S : Finset I) (Φ : I → V → sProp 𝕄) (f : V) :
    (bigSep S fun i => Φ i f) ⊢ bigSep S fun i => iprop(∃ g, Φ i g) :=
  bigSep_mono fun i _ => some_one (Φ i) f
omit [FloatOps F] in
theorem some_grid {I J : Type} [DecidableEq I] [DecidableEq J] {V : Type} (S : Finset I) (T : Finset J) (Φ : I → J → V → sProp 𝕄) (f : V) :
    (bigSep S fun i => bigSep T fun j => Φ i j f) ⊢ bigSep S fun i => bigSep T fun j => iprop(∃ g, Φ i j g) :=
  bigSep_mono fun i _ => some_each T (Φ i) f

omit [FloatOps F] in
theorem lend_to_mate (d : Dev nD) (kp : Fin 3) : lend (F := F) d (mate d kp) = bigSep Finset.univ fun p : Fin 4 => iprop(∃ f, r1P d p (on3 (co d) kp) f) := by
  unfold lend
  rw [if_pos (pl_dv _ _).symm, co_dv]
omit [FloatOps F] in
theorem lend_to_twin (d : Dev nD) (kz : Fin 3) : lend (F := F) d (twin d kz) = iprop(∃ f, r2P d (on3 (pl d) kz) f) := by
  have h : ¬ pl d = pl (twin d kz) := by revert d kz; decide +kernel
  unfold lend
  rw [if_neg h, pl_dv]

omit [FloatOps F] in
/-- The landing buffer of stage one: the device's own slots, and those it lends its mates. -/
theorem deal_r1 (d : Dev nD) :
    iprop(∃ f : Buf (Elt F) ((d : Thread nD τ).loc cc0_scratch1), ((d : Thread nD τ).loc cc0_scratch1) ↦{fullShare} f)
      ⊢ (iprop((bigSep Finset.univ fun zi : Fin 4 => ownSlot d zi) ∗ lend d (mate d 0) ∗ lend d (mate d 1) ∗ lend d (mate d 2)) : sProp 𝕄) := by
  have e : (bigSep Finset.univ fun p : Fin 4 => bigSep Finset.univ fun q : Fin 4 => iprop(∃ g, r1P (F := F) d p q g))
      = iprop((bigSep Finset.univ fun zi : Fin 4 => ownSlot d zi) ∗ lend d (mate d 0) ∗ lend d (mate d 1) ∗ lend d (mate d 2)) := by
    rw [sep_swap, sep_from (co d), sep_on (pl d) (fun p => iprop(∃ g, r1P (F := F) d p (co d) g)), lend_to_mate, lend_to_mate, lend_to_mate]
    rfl
  rw [← e]
  iintro ⟨%f, H⟩
  ihave H := (Entails.of_eq (r1_whole d f).symm) $$ H
  iapply (some_grid Finset.univ Finset.univ (fun p q g => r1P (F := F) d p q g) f)
  iexact H
omit [FloatOps F] in
/-- That of stage two: the slot it keeps, and those it lends its twins. -/
theorem deal_r2 (d : Dev nD) :
    iprop(∃ f : Buf (Elt F) ((d : Thread nD τ).loc cc0_scratch3), ((d : Thread nD τ).loc cc0_scratch3) ↦{fullShare} f)
      ⊢ (iprop((∃ f, r2P d (pl d) f) ∗ lend d (twin d 0) ∗ lend d (twin d 1) ∗ lend d (twin d 2)) : sProp 𝕄) := by
  have e : (bigSep Finset.univ fun p : Fin 4 => iprop(∃ g, r2P (F := F) d p g))
      = iprop((∃ f, r2P d (pl d) f) ∗ lend d (twin d 0) ∗ lend d (twin d 1) ∗ lend d (twin d 2)) := by
    rw [sep_from (pl d), lend_to_twin, lend_to_twin, lend_to_twin]
  rw [← e]
  iintro ⟨%f, H⟩
  ihave H := (Entails.of_eq (r2_whole d f).symm) $$ H
  iapply (some_each Finset.univ (fun p g => r2P (F := F) d p g) f)
  iexact H
omit [FloatOps F] in
theorem deal_s1 (d : Dev nD) :
    iprop(∃ f : Buf (Elt F) ((d : Thread nD τ).loc cc0_scratch0), ((d : Thread nD τ).loc cc0_scratch0) ↦{fullShare} f)
      ⊢ (bigSep Finset.univ fun zi : Fin 4 => bigSep Finset.univ fun kp : Fin 3 => iprop(∃ f, s1P d kp zi f) : sProp 𝕄) := by
  iintro ⟨%f, H⟩
  ihave H := (Entails.of_eq (s1_whole d f).symm) $$ H
  iapply (some_grid Finset.univ Finset.univ (fun (zi : Fin 4) (kp : Fin 3) g => s1P (F := F) d kp zi g) f)
  iexact H
omit [FloatOps F] in
theorem deal_s2 (d : Dev nD) :
    iprop(∃ f : Buf (Elt F) ((d : Thread nD τ).loc cc0_scratch2), ((d : Thread nD τ).loc cc0_scratch2) ↦{fullShare} f)
      ⊢ (bigSep Finset.univ fun kz : Fin 3 => iprop(∃ f, s2P d kz f) : sProp 𝕄) := by
  iintro ⟨%f, H⟩
  ihave H := (Entails.of_eq (s2_whole d f).symm) $$ H
  iapply (some_each Finset.univ (fun (kz : Fin 3) g => s2P (F := F) d kz g) f)
  iexact H

/-! ## A device's rights to pay -/

/-- The payments a device makes: its signals, and at both ends of its transfers. -/
abbrev Right : Type := Fin 6 ⊕ (Fin 4 × Fin 3) ⊕ (Fin 4 × Fin 3) ⊕ Fin 3 ⊕ Fin 3
/-- The cell each is made at. -/
def right (d : Dev nD) : Right → Dev nD × Site
  | .inl k => (sigTo d k, bar)
  | .inr (.inl x) => (d, s1 x.2 x.1)
  | .inr (.inr (.inl x)) => (mate d x.2, r1 (on (pl d) x.1) (co d))
  | .inr (.inr (.inr (.inl kz))) => (d, s2 kz)
  | .inr (.inr (.inr (.inr kz))) => (twin d kz, r2 (pl d))
set_option synthInstance.maxSize 1024 in
set_option synthInstance.maxHeartbeats 200000 in
theorem right_inj : ∀ d : Dev nD, ∀ i j : Right, (right d i).1 = (right d j).1 → (right d i).2 = (right d j).2 → i = j := by decide +kernel

def rights (d : Dev nD) : sProp 𝕄 := bigSep Finset.univ fun j : Right => tok (right d j).1 (right d j).2 d
omit [FloatOps F] in
theorem rights_eq (d : Dev nD) : rights (F := F) d
    = iprop((bigSep Finset.univ fun k : Fin 6 => tok (sigTo d k) bar d)
        ∗ (bigSep Finset.univ fun zi : Fin 4 => bigSep Finset.univ fun kp : Fin 3 => tok d (s1 kp zi) d)
        ∗ (bigSep Finset.univ fun zi : Fin 4 => bigSep Finset.univ fun kp : Fin 3 => tok (mate d kp) (r1 (on (pl d) zi) (co d)) d)
        ∗ (bigSep Finset.univ fun kz : Fin 3 => tok d (s2 kz) d)
        ∗ (bigSep Finset.univ fun kz : Fin 3 => tok (twin d kz) (r2 (pl d)) d)) := by
  unfold rights
  rw [bigSep_univ_sum, bigSep_univ_sum, bigSep_univ_sum, bigSep_univ_sum, bigSep_univ_prod, bigSep_univ_prod]
  rfl

/-! ## The units due at a device's cells -/

/-- How often a list pays a cell. -/
def paid (c : Dev nD) (s : Site) : List (Dev nD × Site) → ℕ
  | [] => 0
  | x :: l => paid c s l + if x.1 = c ∧ x.2 = s then 1 else 0

theorem cell_inj {c c' : Dev nD} {s s' : Site} (h : cell c s = cell c' s') : c = c' ∧ s = s' :=
  ⟨congrArg (fun g : GSem nD τ sig => g.1.1) h, csem_inj _ _ (congrArg Prod.snd h)⟩

theorem ow_cell (c : Dev nD) (s : Site) : ∀ l : List (Dev nD × Site), ow l (cell c s) () = paid c s l * amt s
  | [] => (Nat.zero_mul _).symm
  | x :: l => by
    unfold ow paid
    rw [Pi.add_apply, Finsupp.add_apply, tallyAt_apply, ow_cell c s l, Nat.add_mul]
    congr 1
    by_cases h : x.1 = c ∧ x.2 = s
    · obtain ⟨rfl, rfl⟩ := h
      rw [if_pos ⟨rfl, rfl⟩, if_pos ⟨rfl, rfl⟩, Nat.one_mul]
    · rw [if_neg (fun h' => h ⟨(cell_inj h'.1).1.symm, (cell_inj h'.1).2.symm⟩), if_neg h, Nat.zero_mul]

theorem paid_bar : ∀ d : Dev nD, (∑ x : Dev nD, paid d bar (dues x)) = 6 := by decide +kernel
theorem paid_r1 : ∀ (d : Dev nD) (zi : Fin 4) (kp : Fin 3), (∑ x : Dev nD, paid d (r1 (on (pl d) zi) (on3 (co d) kp)) (dues x)) = 1 := by decide +kernel
theorem paid_r2 : ∀ (d : Dev nD) (kz : Fin 3), (∑ x : Dev nD, paid d (r2 (on3 (pl d) kz)) (dues x)) = 1 := by decide +kernel

/-- The units due at one cell at launch. -/
def dueAt (d : Dev nD) (s : Site) : sProp 𝕄 :=
  cred (tallyOn (cell d s) (launchCredit (Pipeline.owing fun x => ow (dues x)) 0 (cell d s)))
omit [FloatOps F] in
theorem dueAt_eq (d : Dev nD) (s : Site) (n : ℕ) (h : (∑ x : Dev nD, paid d s (dues x)) = n) : dueAt (F := F) d s = due d s (n * amt s) := by
  unfold dueAt due
  refine congrArg cred ?_
  unfold tallyAt
  refine congrArg _ (Finsupp.ext fun u => ?_)
  cases u
  rw [Pipeline.launchCredit_owing, Finsupp.single_eq_same, Finset.sum_congr rfl fun x _ => ow_cell d s (dues x), ← Finset.sum_mul, h]

/-- What a device waits for: the handshake's units and its arrivals'. -/
def incoming (d : Dev nD) : sProp 𝕄 :=
  iprop(due d bar 6 ∗ (bigSep Finset.univ fun zi : Fin 4 => bigSep Finset.univ fun kp : Fin 3 => due d (r1 (on (pl d) zi) (on3 (co d) kp)) N)
    ∗ (bigSep Finset.univ fun kz : Fin 3 => due d (r2 (on3 (pl d) kz)) N))
omit [FloatOps F] in
theorem incoming_intro (d : Dev nD) : (Pipeline.launchCred (fun x => ow (dues x)) d : sProp 𝕄) ⊢ incoming d := by
  have hinj : Function.Injective csem := fun s s' => csem_inj s s'
  have h1 : (Pipeline.launchCred (fun x => ow (dues x)) d : sProp 𝕄) ⊢ bigSep Finset.univ fun s : Site => dueAt d s := by
    unfold Pipeline.launchCred dueAt
    exact (bigSep_subset (Finset.subset_univ (Finset.univ.map ⟨csem, hinj⟩))).trans (Entails.of_eq (bigSep_map (s := (Finset.univ : Finset Site)) ⟨csem, hinj⟩
      (Φ := fun sm : SemLoc sig => (cred (tallyOn ((d : Thread nD τ), sm) (launchCredit (Pipeline.owing fun x => ow (dues x)) 0 ((d : Thread nD τ), sm))) : sProp 𝕄))))
  have hb : dueAt (F := F) d bar = due d bar 6 := dueAt_eq d bar 6 (paid_bar d)
  have hr1 : ∀ (zi : Fin 4) (kp : Fin 3), dueAt (F := F) d (r1 (on (pl d) zi) (on3 (co d) kp)) = due d (r1 (on (pl d) zi) (on3 (co d) kp)) N := fun zi kp =>
    (dueAt_eq d _ 1 (paid_r1 d zi kp)).trans (congrArg (due d _) (Nat.one_mul _))
  have hr2 : ∀ kz : Fin 3, dueAt (F := F) d (r2 (on3 (pl d) kz)) = due d (r2 (on3 (pl d) kz)) N := fun kz =>
    (dueAt_eq d _ 1 (paid_r2 d kz)).trans (congrArg (due d _) (Nat.one_mul _))
  rw [sites_eq d] at h1
  simp only [hb, hr1, hr2] at h1
  unfold incoming
  iintro H
  ihave H := h1 $$ H
  icases H with ⟨Hb, -, ⟨-, H1⟩, -, -, H2⟩
  isplitl [Hb]; · iexact Hb
  isplitl [H1]; · iexact H1
  iexact H2

/-! ## The body's start and end -/

/-- The cells nobody pays. -/
def idle (d : Dev nD) : sProp 𝕄 := iprop((bigSep Finset.univ fun zi : Fin 4 => fresh d (r1 (on (pl d) zi) (co d))) ∗ fresh d (r2 (pl d)))

omit [FloatOps F] in
theorem kit_intro (d : Dev nD) :
    iprop((bigSep Finset.univ fun s : Site => fresh d s) ∗ rights d ∗ incoming d ∗ scratch d) ⊢ (iprop(bodyKit d ∗ idle d) : sProp 𝕄) := by
  unfold incoming scratch bodyKit idle sendKit arriveKit crossKit landKit
  simp only [bigSep_sep']
  rw [sites_eq d, rights_eq, sep_fin6 (fun k => lend (F := F) d (sigTo d k))]
  iintro ⟨⟨Hb, Hs1, ⟨Hi1, Hr1⟩, Hs2, Hi2, Hr2⟩, ⟨Ht0, Ht1, Ht2, Ht3, Ht4⟩, ⟨Hd0, Hd1, Hd2⟩, Hm0, Hm1, Hm2, Hm3⟩
  ihave Hm0 := (deal_s1 d) $$ Hm0
  ihave Hm1 := (deal_r1 d) $$ Hm1
  ihave Hm2 := (deal_s2 d) $$ Hm2
  ihave Hm3 := (deal_r2 d) $$ Hm3
  icases Hm1 with ⟨Ho, Hl0, Hl1, Hl2⟩
  icases Hm3 with ⟨Hk, Hl3, Hl4, Hl5⟩
  isplitr [Hi1 Hi2]
  swap
  · isplitl [Hi1]; · iexact Hi1
    iexact Hi2
  isplitl [Hb]; · iexact Hb
  isplitl [Hd0]; · iexact Hd0
  isplitl [Hl0 Hl1 Hl2 Hl3 Hl4 Hl5 Ht0]
  · isplitr [Ht0]
    swap; · iexact Ht0
    isplitl [Hl0]; · iexact Hl0
    isplitl [Hl1]; · iexact Hl1
    isplitl [Hl2]; · iexact Hl2
    isplitl [Hl3]; · iexact Hl3
    isplitl [Hl4]; · iexact Hl4
    iexact Hl5
  isplitl [Ho]; · iexact Ho
  isplitl [Hm0 Ht1 Ht2]
  · isplitl [Hm0]; · iexact Hm0
    isplitl [Ht1]; · iexact Ht1
    iexact Ht2
  isplitl [Hr1 Hd1]
  · isplitl [Hr1]; · iexact Hr1
    iexact Hd1
  isplitl [Hm2 Ht3 Ht4]
  · isplitl [Hm2]; · iexact Hm2
    isplitl [Ht3]; · iexact Ht3
    iexact Ht4
  isplitl [Hk]; · iexact Hk
  isplitl [Hr2 Hd2]
  · isplitl [Hr2]; · iexact Hr2
    iexact Hd2
  isplitl [Hs1]; · iexact Hs1
  iexact Hs2

/-- A cell nobody pays, done with. -/
theorem close_spec (d : Dev nD) (s : Site) (h : payers d s = ∅) : iprop(recs A B K ∗ fresh d s) ⊢ (|={Set.univ}=> spent d s : sProp 𝕄) := by
  unfold fresh spent
  iintro ⟨#Hr, Hat⟩
  imod (Rounds.cell_close ER (Rd A B) (Set.mem_univ (K (d, s))) (fun h => h) (R := 0) (duties_none A B d s h)) $$ [Hat] with Hz
  · isplitr; · iapply (recs_inv A B K d s); iexact Hr
    iexact Hat
  imodintro
  iexact Hz

def idleDone (d : Dev nD) : sProp 𝕄 := iprop((bigSep Finset.univ fun zi : Fin 4 => spent d (r1 (on (pl d) zi) (co d))) ∗ spent d (r2 (pl d)))
theorem idle_close (d : Dev nD) : iprop(recs A B K ∗ idle d) ⊢ (|={Set.univ}=> idleDone d : sProp 𝕄) := by
  have h1 : ∀ zi : Fin 4, payers d (r1 (on (pl d) zi) (co d)) = ∅ := by revert d; decide +kernel
  have h2 : payers d (r2 (pl d)) = ∅ := by revert d; decide +kernel
  unfold idle idleDone
  rw [sep_fin4, sep_fin4]
  iintro ⟨#Hr, ⟨H0, H1, H2, H3⟩, H4⟩
  imod (close_spec A B K d _ (h1 0)) $$ [H0] with H0
  · isplitr; · iexact Hr
    iexact H0
  imod (close_spec A B K d _ (h1 1)) $$ [H1] with H1
  · isplitr; · iexact Hr
    iexact H1
  imod (close_spec A B K d _ (h1 2)) $$ [H2] with H2
  · isplitr; · iexact Hr
    iexact H2
  imod (close_spec A B K d _ (h1 3)) $$ [H3] with H3
  · isplitr; · iexact Hr
    iexact H3
  imod (close_spec A B K d _ h2) $$ [H4] with H4
  · isplitr; · iexact Hr
    iexact H4
  imodintro
  isplitr [H4]
  swap; · iexact H4
  isplitl [H0]; · iexact H0
  isplitl [H1]; · iexact H1
  isplitl [H2]; · iexact H2
  iexact H3

theorem out_exit (d : Dev nD) :
    iprop(bodyOut A B d ∗ idleDone d) ⊢ (iprop(scratch d ∗ bigSep Finset.univ fun s : Site => spent d s) : sProp 𝕄) := by
  have hrow : (bigSep Finset.univ fun zi : Fin 4 => row A B d (on (pl d) zi)) = (((d : Thread nD τ).loc cc0_scratch1) ↦{fullShare} R1 A B d : sProp 𝕄) := by
    rw [← sep_on (pl d) (fun p => row A B d p)]
    exact r1_whole d (R1 A B d)
  unfold bodyOut idleDone scratch
  rw [sites_eq d, hrow, s1_whole, s2_whole, landing2_eq]
  iintro ⟨⟨Hb, Hv, Hrow, Hw, Hl, Hp, Hs1, Hy, Hs2⟩, Hi1, Hi2⟩
  isplitl [Hrow Hl Hs1 Hs2]
  · isplitl [Hs1]; · iexists _; iexact Hs1
    isplitl [Hrow]; · iexists _; iexact Hrow
    isplitl [Hs2]; · iexists _; iexact Hs2
    iexists _; iexact Hl
  isplitl [Hb]; · iexact Hb
  isplitl [Hp]; · iexact Hp
  isplitl [Hi1 Hv]
  · isplitl [Hi1]; · iexact Hi1
    iexact Hv
  isplitl [Hy]; · iexact Hy
  isplitl [Hi2]; · iexact Hi2
  iexact Hw

end Cert.Scatter

end
-- ==== Proof.Launch.lean ====
/-
# `Launch`: the run of the sixteen devices, for any float values
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's columns of the left operand, staged; -/
def colsA (c : Dev nD) : (cc0_stg0_0 : Ref sig .tc).ty.Contents (Elt F) :=
  (win0_0.blk (0 : Fin 1)).view.read (Elt F) (m ((c : Thread nD τ).loc main_arg0))
/-- its rows of the right operand, staged. -/
def rowsB (c : Dev nD) : (cc0_stg1_0 : Ref sig .tc).ty.Contents (Elt F) :=
  (win0_1.blk (0 : Fin 1)).view.read (Elt F) (m ((c : Thread nD τ).loc main_arg1))

/-- The result a device is left with. -/
abbrev outAt (c : Dev nD) : (cc0_stg2_0 : Ref sig .tc).ty.Contents (Elt F) := res (colsA m) (rowsB m) c

/-! ## The pipeline's data -/

/-- What a device's body starts from. -/
def start (c : Dev nD) : sProp 𝕄 :=
  iprop(∃ K : Dev nD × Site → ℕ, recs (colsA m) (rowsB m) K ∗ (bigSep Finset.univ fun s : Site => fresh c s) ∗ rights c ∗ incoming c)

def Φ₀ (c : Dev nD) : sProp 𝕄 := iprop(∃ K : Dev nD × Site → ℕ, recs (colsA m) (rowsB m) K ∗ bodyKit c ∗ idle c)
def Φ₁ (c : Dev nD) : sProp 𝕄 := iprop(scratch c ∗ bigSep Finset.univ fun s : Site => spent c s)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => colsA m c
    | ⟨1, _⟩ => rowsB m c
    | ⟨2, _⟩ => outAt m c
  Φ t := match t with
    | ⟨0, _⟩ => Φ₀ m c
    | ⟨_ + 1, _⟩ => Φ₁ c
  q _ := fullShare
  owed t := match t with
    | ⟨0, _⟩ => ow (dues c)
    | ⟨_ + 1, _⟩ => 0

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem bigSep_windows (Φ : Fin cfg0.W → sProp 𝕄) : bigSep Finset.univ Φ = iprop(Φ (0 : Fin 3) ∗ Φ (1 : Fin 3) ∗ Φ (2 : Fin 3)) := bigSep_W0 Φ

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (colsA m c) ∗ stg c cc0_stg1_0 (rowsB m c) ∗ stg c cc0_stg2_0 (outAt m c))

theorem before_A (c : Dev nD) (d) : (dats m ρ 0 c).before (0 : Fin 3) t0_0 d = colsA m c := by
  unfold Dat.before; rw [if_pos (fetch0_0 t0_0)]; rfl
theorem before_B (c : Dev nD) (d) : (dats m ρ 0 c).before (1 : Fin 3) t0_0 d = rowsB m c := by
  unfold Dat.before; rw [if_pos (fetch0_1 t0_0)]; rfl

theorem body_run (c : Dev nD) :
    bodyPre m ρ c ⊢ wp frame (wpE (defs₀ (F := F)) 𝒱₀ (c : Thread nD τ) none) Set.univ
      (cc0_body aM (Memref.isWhole_whole _) bM (Memref.isWhole_whole _) oM (Memref.isWhole_whole _)
        s1M (Memref.isWhole_whole _) r1M (Memref.isWhole_whole _) s2M (Memref.isWhole_whole _) r2M (Memref.isWhole_whole _)
        cc0_scratch4 cc0_scratch5 cc0_scratch6 cc0_scratch7) (fun _ => bodyPost m ρ c) := by
  rw [body_eq]
  simp only [Prog.lift, Prog.bind_op, Prog.bind_ret, wp_deviceId]
  unfold bodyPre Φ₀
  iintro ⟨⟨%K, #Hr, Hkit, Hidle⟩, Ho, ⟨%d0, %g0, %hg0, HA⟩, ⟨%d1, %g1, %hg1, HB⟩, ⟨%d2, %g2, -, HS⟩⟩
  rw [before_A] at hg0
  rw [before_B] at hg1
  subst hg0 hg1
  unfold Dat.owesAt Pipeline.owesWithin
  icases Ho with ⟨%W, -, HO⟩
  imod (idle_close (colsA m) (rowsB m) K c) $$ [Hidle] with Hidle
  · isplitr; · iexact Hr
    iexact Hidle
  iapply (plan_spec (colsA m) (rowsB m) K c fun _ => bodyPost m ρ c)
  unfold stgA stgB stgO
  isplitr; · iexact Hr
  isplitl [HA]; · iexact HA
  isplitl [HB]; · iexact HB
  isplitl [HS]; · iexists g2; iexact HS
  isplitl [Hkit]; · iexact Hkit
  isplitl [HO]; · unfold owing; iexists W; iexact HO
  iintro ⟨HA, HB, HS, Hout, HO⟩
  unfold bodyPost Φ₁
  ihave Hend := (out_exit (colsA m) (rowsB m) c) $$ [Hout Hidle]
  · isplitl [Hout]; · iexact Hout
    iexact Hidle
  isplitl [Hend]; · iexact Hend
  isplitl [HO]
  · unfold owing Dat.owesAt Pipeline.owesWithin
    icases HO with ⟨%W', HO⟩
    iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact HS

theorem body_obligation (c : Dev nD) : BodyObligation (dats (F := F) m ρ 0 c) (defs₀ (F := F)) 𝒱₀ () Set.univ := fun t => by
  rw [fin_N0 t, bigSep_windows, bigSep_windows]
  simp only [owns_staged]
  exact body_run m ρ c

/-! ## The launch -/

/-- A device's semaphores of its own: all its cells but the barrier's. -/
abbrev OwnSite : Type := (Fin 3 × Fin 4) ⊕ (Fin 4 × Fin 4) ⊕ Fin 3 ⊕ Fin 4
abbrev osem : OwnSite → SemLoc sig := fun x => csem (.inr x)

theorem ownSemFacts : Pipeline.OwnSemFacts cfg0.spec osem where
  isScoped := by decide +kernel
  inj := fun x y h => Sum.inr_injective (csem_inj _ _ h)
  disj := by decide +kernel

theorem share_full (c : Dev nD) (w : Fin cfg0.W) : (dats m ρ 0 c).share w = fullShare := by unfold Dat.share; split <;> rfl

abbrev kcell (x : Dev nD × Site) : GSem nD τ sig := cell x.1 x.2
theorem kcell_inj : Function.Injective kcell := fun x y h => Prod.ext (cell_inj h).1 (cell_inj h).2
def allCells : Finset (GSem nD τ sig) := Finset.univ.map ⟨kcell, kcell_inj⟩

abbrev minted (x : Dev nD × Right) : GSem nD τ sig × ℕ × Dev nD := (cell (right x.1 x.2).1 (right x.1 x.2).2, 0, x.1)
theorem minted_inj : Function.Injective minted := by
  rintro ⟨d, i⟩ ⟨d', j⟩ h
  have hd : d = d' := congrArg (fun x : GSem nD τ sig × ℕ × Dev nD => x.2.2) h
  subst hd
  have hc := cell_inj (congrArg Prod.fst h)
  exact congrArg (Prod.mk d) (right_inj d i j hc.1 hc.2)
def allRights : Finset (GSem nD τ sig × ℕ × Dev nD) := Finset.univ.map ⟨minted, minted_inj⟩

def u₀ : UU := (initOf (Pipeline.cells cfgs cellOf_inj) (Pipeline.launchToks cfgs cellOf_inj), initOf allCells allRights)

/-- What the launch deals a device. -/
def G (c : Dev nD) : sProp 𝕄 :=
  iprop((bigSep Finset.univ fun s : Site => roundState ER (Rd (colsA m) (rowsB m)) (cell c s) 0)
    ∗ (bigSep Finset.univ fun s : Site => fresh c s) ∗ (bigSep Finset.univ fun s : Site => reached ER (cell c s) 0) ∗ rights c)

/-- The invariants and marks of all cells. -/
def marks (K : Dev nD × Site → ℕ) : sProp 𝕄 :=
  iprop((bigSep Finset.univ fun x : Dev nD × Site => cellInv ER (Rd (colsA m) (rowsB m)) (K x) (cell x.1 x.2))
    ∗ (bigSep Finset.univ fun x : Dev nD × Site => reached ER (cell x.1 x.2) 0))
instance marks_persistent (K : Dev nD × Site → ℕ) : BI.Persistent (marks m K) := by unfold marks; infer_instance

/-- What the cells' opening makes of it. -/
def G' (c : Dev nD) : sProp 𝕄 := iprop(∃ K : Dev nD × Site → ℕ, marks m K ∗ (bigSep Finset.univ fun s : Site => fresh c s) ∗ rights c)

theorem fund_cells : BI.own (ER (initOf allCells allRights)) ⊢ (|==> bigSep Finset.univ (G m) : sProp 𝕄) := by
  have hX (Φ : GSem nD τ sig → sProp 𝕄) : bigSep allCells Φ = bigSep Finset.univ fun c : Dev nD => bigSep Finset.univ fun s : Site => Φ (cell c s) := by
    unfold allCells; rw [bigSep_map, bigSep_univ_prod]; rfl
  have hT : bigSep allRights (fun x => (dutyTok ER x.1 x.2.1 x.2.2 : sProp 𝕄)) = bigSep Finset.univ fun c : Dev nD => rights c := by
    unfold allRights; rw [bigSep_map, bigSep_univ_prod]; rfl
  iintro HX
  imod (Rounds.fund ER (Rd (colsA m) (rowsB m)) allCells allRights) $$ HX with ⟨Hst, Hr, Hat, Htok⟩
  imodintro
  ihave Hst := (Entails.of_eq (hX fun g => roundState ER (Rd (colsA m) (rowsB m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G fresh
  simp only [bigSep_sep']
  isplitl [Hst]; · iexact Hst
  isplitl [Hat]; · iexact Hat
  isplitl [Hr]; · iexact Hr
  iexact Htok

omit [FloatOps F] in
theorem unscoped_eq (c : Dev nD) : (unscopedSems0 c : sProp 𝕄) = spent c bar := by
  unfold unscopedSems0; rw [bigSep_eq_bigSepL_of_eq [SemLoc.reg barS] (by decide +kernel) (by decide)]; rfl
omit [FloatOps F] in
theorem spent_eq (c : Dev nD) : (bigSep Finset.univ fun s : Site => spent (F := F) c s)
    = iprop(unscopedSems0 c ∗ Pipeline.ownSems0 (Ix := Unit) (Name := ℕ) (U := UU) (Lvl := ℕ) (Val := Elt F) (τ := τ) osem c) := by
  rw [unscoped_eq, bigSep_univ_sum, sep_unit]
  rfl

theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : Site => iprop(∃ κ : ℕ, cellInv ER (Rd (colsA m) (rowsB m)) κ (cell c s)))
          ∗ (bigSep Finset.univ fun s : Site => fresh c s) ∗ (bigSep Finset.univ fun s : Site => reached ER (cell c s) 0) ∗ rights c) := by
  have hopen : iprop((bigSep Finset.univ fun s : Site => spent (F := F) c s) ∗ bigSep Finset.univ fun s : Site => roundState ER (Rd (colsA m) (rowsB m)) (cell c s) 0)
      ⊢ (|={Set.univ}=> bigSep Finset.univ fun s : Site => iprop(∃ κ : ℕ, cellInv ER (Rd (colsA m) (rowsB m)) κ (cell c s)) : sProp 𝕄) := by
    rw [← bigSep_sep']
    exact (bigSep_mono fun s _ => (Rounds.body_intro ER (Rd (colsA m) (rowsB m)) (cell c s)).trans inv_alloc).trans (bigSep_fupd _ _)
  unfold G
  iintro ⟨Hos, Hus, Hst, Hat, Hre, Htok⟩
  imod hopen $$ [Hos Hus Hst] with Hinv
  · isplitl [Hos Hus]
    · rw [spent_eq]
      isplitl [Hus]; · iexact Hus
      iexact Hos
    iexact Hst
  imodintro
  isplitl [Hinv]; · iexact Hinv
  isplitl [Hat]; · iexact Hat
  isplitl [Hre]; · iexact Hre
  iexact Htok

theorem deal_marks (K : Dev nD × Site → ℕ) (Φ : Dev nD → sProp 𝕄) :
    iprop(marks m K ∗ bigSep Finset.univ Φ) ⊢ bigSep Finset.univ fun c : Dev nD => iprop(marks m K ∗ Φ c) := by
  rw [bigSep_sep']
  exact sep_mono_left (BI.bigSep_of_persistent Finset.univ (marks m K))

theorem regroup :
    (bigSep Finset.univ fun c : Dev nD => iprop((bigSep Finset.univ fun s : Site => iprop(∃ κ : ℕ, cellInv ER (Rd (colsA m) (rowsB m)) κ (cell c s)))
          ∗ (bigSep Finset.univ fun s : Site => fresh c s) ∗ (bigSep Finset.univ fun s : Site => reached ER (cell c s) 0) ∗ rights c) : sProp 𝕄)
      ⊢ bigSep Finset.univ (G' m) := by
  haveI : DecidableEq (Dev nD × Site) := Classical.decEq _
  have hone (K : Dev nD × Site → ℕ) : iprop(marks m K ∗ bigSep Finset.univ fun c : Dev nD => iprop((bigSep Finset.univ fun s : Site => fresh c s) ∗ rights c)) ⊢ bigSep Finset.univ (G' m) :=
    (deal_marks m K _).trans (bigSep_mono fun c _ => some_one (fun K => iprop(marks m K ∗ (bigSep Finset.univ fun s : Site => fresh c s) ∗ rights c)) K)
  rw [bigSep_sep', bigSep_sep', bigSep_sep',
    ← bigSep_univ_prod (fun x : Dev nD × Site => iprop(∃ κ : ℕ, cellInv ER (Rd (colsA m) (rowsB m)) κ (cell x.1 x.2))),
    ← bigSep_univ_prod (fun x : Dev nD × Site => (reached ER (cell x.1 x.2) 0 : sProp 𝕄))]
  iintro ⟨HI, Hat, #HR, Htok⟩
  ihave HK := (BI.bigSep_exists_pi Finset.univ (fun (x : Dev nD × Site) (κ : ℕ) => (cellInv ER (Rd (colsA m) (rowsB m)) κ (cell x.1 x.2) : sProp 𝕄))) $$ HI
  icases HK with ⟨%K, #HI⟩
  iapply (hone K)
  isplitr
  · unfold marks
    isplitl; · iexact HI
    iexact HR
  rw [bigSep_sep']
  isplitl [Hat]; · iexact Hat
  iexact Htok

theorem open_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun x => ow (dues x)) c ∗ prngReg c (ρ c) ∗ G' m c)
      ⊢ |={Set.univ}=> iprop(start m c ∗ emp) := by
  unfold G' marks start recs
  iintro ⟨-, Hlev, Hcr, -, ⟨%K, ⟨HI, HR⟩, Hf, Ht⟩⟩
  ihave Hin := (incoming_intro (F := F) c) $$ Hcr
  imodintro
  isplitl
  · iexists K
    isplitl [HI HR Hlev]
    · isplitl [HI]; · iexact HI
      isplitl [HR]; · iexact HR
      iexact Hlev
    isplitl [Hf]; · iexact Hf
    isplitl [Ht]; · iexact Ht
    iexact Hin
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨%K, Hr, Hf, Ht, Hin⟩, -, Hscr⟩
  iexists K
  isplitl [Hr]; · iexact Hr
  iapply (kit_intro (F := F) c)
  unfold scratch
  isplitl [Hf]; · iexact Hf
  isplitl [Ht]; · iexact Ht
  isplitl [Hin]; · iexact Hin
  iexact Hscr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [spent_eq]
  iintro ⟨Hscr, Hus, Hos⟩
  isplitl [Hus]; · iexact Hus
  isplitl [Hos]; · iexact Hos
  iexact Hscr

theorem stage_lv : ∀ (w : Fin 3) (s : Fin (spec0 w).nbuf) (x : Site), csem x ≠ .dma ((spec0 w).sem s) := by decide +kernel
theorem dues_rank : ∀ (c : Dev nD), ∀ x ∈ dues c, 0 < rank x.2 := by decide +kernel

theorem siteOf_stage (w : Fin 3) (s : Fin (spec0 w).nbuf) : siteOf (.dma ((spec0 w).sem s)) = none := by
  unfold siteOf
  rw [dif_neg (fun ⟨x, hx⟩ => stage_lv w s x hx)]

theorem stage_wait (c : Dev nD) (w : Fin 3) (s : Fin (spec0 w).nbuf) (l : List (Dev nD × Site)) (h : ∀ x ∈ l, 0 < rank x.2) :
    (levAts L lv : sProp 𝕄) ⊢ MayWait (c : Thread nD τ) (.dma ((spec0 w).sem s)) () (ow l) :=
  mayWait c _ l fun x hx => by
    unfold lv
    dsimp only
    rw [siteOf_stage w s]
    exact h x hx

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact stage_wait c w s (dues c) (dues_rank c)
    · exact stage_wait c w s [] (fun x hx => absurd hx List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every fair execution on the sixteen devices ends, each
device's arrays at the contents computed here, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := fun x => ow (dues x)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := open_all m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_left (c : Dev nD) : finalA m ρ c (0 : Fin 3) = (s₀ m ρ).mem (win0_0.arr.view.loc (c : Thread nD τ)) :=
  (dats (F := F) m ρ 0 c).arrAt_in (0 : Fin 3) rfl _
theorem finalA_right (c : Dev nD) : finalA m ρ c (1 : Fin 3) = (s₀ m ρ).mem (win0_1.arr.view.loc (c : Thread nD τ)) :=
  (dats (F := F) m ρ 0 c).arrAt_in (1 : Fin 3) rfl _

/-- So the arguments end as they began and every counter ends at zero, for any float values. -/
theorem frame_any : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs (onTc (τ := τ) (main (F := F))) (s₀ m ρ)).mono
    (fun _ h => ⟨fun c => ⟨(h.1 c (0 : Fin 3)).trans (finalA_left m ρ c), (h.1 c (1 : Fin 3)).trans (finalA_right m ρ c)⟩, h.2⟩)
    (run_main m ρ)

end Cert.Scatter

end
-- ==== Proof.Value.lean ====
/-
# `Value`: over the extended reals every device ends with its rows of the product

A device's product for a row block is a sum over its 1024 places of the contraction; the two stages add these up over
the four devices of each plane, then over the four planes, which is the whole contraction of 16384 places.
-/
module

public import proofs.«01_k».proof.Proof.Launch
public import proofs.«01_k».proof.Proof.Gen.ReferenceIdeal
public import Idealize.ShloMosaic.Lib.Pointwise
public import Idealize.ShloMosaic.Lib.StackMember
public import Idealize.ShloMosaic.Lib.Layout

@[expose] public section

set_option maxRecDepth 16384

noncomputable section

namespace Cert.Scatter

open Cert.KernelIdeal Cert.KernelIdeal.Gen
open Idealize.ShloMosaic Idealize.SL.Sem
open scoped BigOperators

section Sums

variable (A : Dev nD → (cc0_stg0_0 : Ref sig .tc).ty.Contents (Elt Ideal)) (B : Dev nD → (cc0_stg1_0 : Ref sig .tc).ty.Contents (Elt Ideal))

/-- Row `r` of device `d`'s block, among all rows. -/
abbrev rowOf (d : Dev nD) (r : Fin 128) : Fin 2048 := ⟨d.val * 128 + r.val, by have := d.isLt; change d.val < 16 at this; omega⟩

/-- One device's share of an element of the product. -/
def share (a : Dev nD → FVec Ideal S2048x1024 .f32) (b : Dev nD → FVec Ideal S1024x2048 .f32) (d : Dev nD) (i j : Fin 2048) : EReal :=
  ∑ k : Fin 1024, a d (ix2 i k) * b d (ix2 k j)

theorem pay1_apply (a : Vec Ideal S128x1024 .f32) (b : Vec Ideal S1024x2048 .f32) (r : Fin 128) (j : Fin 2048) :
    (k0_pay1 a b : FVec Ideal S1x1x128x2048 .bf16) (ix4 0 0 r j) = ∑ k : Fin 1024, a (ix2 r k) * b (ix2 k j) := by
  pointwise [k0_pay1]

theorem pay19_apply (v : Vec Ideal S1x4x128x2048 .bf16) (r : Fin 128) (j : Fin 2048) :
    (k0_pay19 v : FVec Ideal S1x128x2048 .bf16) (ix3 0 r j) = ∑ q : Fin 4, v (ix4 0 q r j) := by
  pointwise [k0_pay19]

theorem pay24_apply (v : Vec Ideal S4x128x2048 .bf16) (r : Fin 128) (j : Fin 2048) :
    (k0_pay24 v : FVec Ideal S128x2048 .f32) (ix2 r j) = ∑ p : Fin 4, v (ix3 p r j) := by
  pointwise [k0_pay24]

theorem prod_apply (d : Dev nD) (p q : Fin 4) (r : Fin 128) (j : Fin 2048) :
    (prod A B d p q : FVec Ideal S1x1x128x2048 .bf16) (ix4 0 0 r j) = share A B d (rowOf (dv p q) r) j := by
  unfold prod
  rw [pay1_apply]
  unfold share
  refine Finset.sum_congr rfl fun k _ => congrArg₂ (· * ·) ?_ ?_
  · refine congrArg (A d : FVec Ideal S2048x1024 .f32) (funext fun a => ?_)
    match a with
    | 0 => exact Fin.ext (by show blk p q + 1 * r.val = (4 * p.val + q.val) * 128 + r.val; unfold blk; omega)
    | 1 => exact Fin.ext (by show 0 + 1 * k.val = k.val; omega)
  · refine congrArg (B d : FVec Ideal S1024x2048 .f32) (funext fun a => ?_)
    match a with
    | 0 => exact Fin.ext (by show 0 + 1 * k.val = k.val; omega)
    | 1 => exact Fin.ext (by show 0 + 1 * j.val = j.val; omega)

theorem planeSum_apply (d : Dev nD) (p : Fin 4) (r : Fin 128) (j : Fin 2048) :
    (planeSum A B d p : FVec Ideal S1x128x2048 .bf16) (ix3 0 r j) = ∑ q : Fin 4, share A B (dv (pl d) q) (rowOf (dv p (co d)) r) j := by
  unfold planeSum
  rw [pay19_apply]
  refine Finset.sum_congr rfl fun q _ => ?_
  rw [← prod_apply]
  have e : ((rowR p).emb (ix4 (0 : Fin 1) q r j) : S4x4x128x2048.Idx) = ix4 p q r j := funext fun a => by
    match a with
    | 0 => exact Fin.ext (by show p.val + 1 * 0 = p.val; omega)
    | 1 => exact Fin.ext (by show 0 + 1 * q.val = q.val; omega)
    | 2 => exact Fin.ext (by show 0 + 1 * r.val = r.val; omega)
    | 3 => exact Fin.ext (by show 0 + 1 * j.val = j.val; omega)
  have e' : in1 (ix4 p q r j : S4x4x128x2048.Idx) = ix4 (0 : Fin 1) (0 : Fin 1) r j := funext fun a => by
    match a with
    | 0 => rfl
    | 1 => rfl
    | 2 => rfl
    | 3 => rfl
  show R1 A B d ((rowR p).emb (ix4 (0 : Fin 1) q r j)) = _
  rw [e]
  show prod A B (dv (pl d) q) p (co d) (in1 (ix4 p q r j : S4x4x128x2048.Idx)) = _
  rw [e']

theorem res_apply (d : Dev nD) (r : Fin 128) (j : Fin 2048) :
    @Eq EReal (res A B d (ix2 r j)) (∑ p : Fin 4, ∑ q : Fin 4, share A B (dv p q) (rowOf d r) j) := by
  unfold res
  refine (pay24_apply _ r j).trans ?_
  refine Finset.sum_congr rfl fun p _ => ?_
  have e : (r2All.emb (ix3 p r j) : S4x128x2048.Idx) = ix3 p r j := funext fun a => by
    match a with
    | 0 => exact Fin.ext (by show 0 + 1 * p.val = p.val; omega)
    | 1 => exact Fin.ext (by show 0 + 1 * r.val = r.val; omega)
    | 2 => exact Fin.ext (by show 0 + 1 * j.val = j.val; omega)
  have e' : in2 (ix3 p r j : S4x128x2048.Idx) = ix3 (0 : Fin 1) r j := funext fun a => by
    match a with
    | 0 => rfl
    | 1 => rfl
    | 2 => rfl
  show R2 A B d (r2All.emb (ix3 p r j)) = _
  rw [e]
  show planeSum A B (dv p (co d)) (pl d) (in2 (ix3 p r j : S4x128x2048.Idx)) = _
  rw [e', planeSum_apply, pl_dv, co_dv, dv_pl_co]

/-- The sixteen devices, plane by plane. -/
theorem sum_devices (f : Dev nD → EReal) : ∑ p : Fin 4, ∑ q : Fin 4, f (dv p q) = ∑ d : Dev nD, f d := by
  rw [Fin.sum_univ_tiles 4 4 (show 4 * 4 = nD from rfl) f]
  refine Finset.sum_congr rfl fun p _ => Finset.sum_congr rfl fun q _ => congrArg f (Fin.ext ?_)
  show 4 * p.val + q.val = p.val * 4 + q.val
  omega

end Sums

/-! ## Against the whole product -/

section Whole

variable (X : FVec Ideal ⟨2, ![2048, 16384]⟩ .f32) (Y : FVec Ideal ⟨2, ![16384, 2048]⟩ .f32)

/-- The product of the whole operands. -/
abbrev product : FVec Ideal ⟨2, ![2048, 2048]⟩ .f32 :=
  Host.dotGeneral Cert.ReferenceIdeal.dot_S2048x16384_S16384x2048_S2048x2048_1_0_0_1_n_n none X Y

theorem product_apply (i j : Fin 2048) : product X Y (ix2 i j) = ∑ k : Fin 16384, X (ix2 i k) * Y (ix2 k j) := by
  pointwise [product]

/-- If every device holds its columns of the one and its rows of the other, it ends with its rows of the product. -/
theorem res_block (A : Dev nD → (cc0_stg0_0 : Ref sig .tc).ty.Contents (Elt Ideal)) (B : Dev nD → (cc0_stg1_0 : Ref sig .tc).ty.Contents (Elt Ideal))
    (hA : ∀ c : Dev nD, A c = Layout.block ⟨2, ![2048, 1024]⟩ ⟨2, ![2048, 16384]⟩ 1 16 c X)
    (hB : ∀ c : Dev nD, B c = Layout.block ⟨2, ![1024, 2048]⟩ ⟨2, ![16384, 2048]⟩ 0 16 c Y) (d : Dev nD) :
    res A B d = Layout.block ⟨2, ![128, 2048]⟩ ⟨2, ![2048, 2048]⟩ 0 16 d (product X Y) := by
  refine funext fun (i : S128x2048.Idx) => ?_
  obtain ⟨r, j, rfl⟩ : ∃ (r : Fin 128) (j : Fin 2048), i = ix2 r j := ⟨i 0, i 1, eq_ix2 i⟩
  rw [Layout.block_apply]
  have e : (Layout.Tiles.idx (by decide : Layout.Tiles ⟨2, ![128, 2048]⟩ ⟨2, ![2048, 2048]⟩ 0 16) d (ix2 r j)) = ix2 (rowOf d r) j := funext fun a => by
    match a with
    | 0 => rfl
    | 1 => rfl
  refine (res_apply A B d r j).trans (((sum_devices fun c => share A B c (rowOf d r) j).trans ?_).trans ((congrArg (product X Y) e).trans (product_apply X Y _ _)).symm)
  rw [Fin.sum_univ_tiles 16 1024 (show 16 * 1024 = 16384 from rfl)]
  refine Finset.sum_congr rfl fun c _ => Finset.sum_congr rfl fun k _ => congrArg₂ (· * ·) ?_ ?_
  · rw [hA c]
    refine congrArg X (funext fun a => ?_)
    match a with
    | 0 => rfl
    | 1 => rfl
  · rw [hB c]
    refine congrArg Y (funext fun a => ?_)
    match a with
    | 0 => rfl
    | 1 => rfl

end Whole

/-! ## The arrays -/

variable (m : (ℓ : Loc nD τ sig) → Buf (Elt Ideal) ℓ) (ρ : Dev nD → PrngReg)

theorem colsA_eq (c : Dev nD) : colsA m c = m ((c.tc : Thread nD τ).loc main_arg0) :=
  Memref.read_access_unit_zero (Elt Ideal) main_arg0 (funext fun a => by fin_cases a <;> decide) (fun a => by fin_cases a <;> decide) _
theorem rowsB_eq (c : Dev nD) : rowsB m c = m ((c.tc : Thread nD τ).loc main_arg1) :=
  Memref.read_access_unit_zero (Elt Ideal) main_arg1 (funext fun a => by fin_cases a <;> decide) (fun a => by fin_cases a <;> decide) _

/-- The result array ends with the result the body stored: the one block of the result window is the whole array. -/
theorem finalA_out (c : Dev nD) : finalA m ρ c (2 : Fin 3) = outAt m c := by
  have h : (win0_2.blk (0 : Fin 1)).view.read (Elt Ideal) (finalA m ρ c (2 : Fin 3)) = outAt m c := by
    unfold finalA
    rw [show cfg0.N = (t0_0 : Fin cfg0.N).val + 1 from rfl, (dats m ρ 0 c).arrAt_succ (2 : Fin 3) t0_0, if_pos (flush0_2 t0_0)]
    exact View.read_write_univ _ _
  exact (Memref.read_access_unit_zero (Elt Ideal) main_v1 (funext fun a => by fin_cases a <;> decide) (fun a => by fin_cases a <;> decide) _).symm.trans h

end Cert.Scatter

end
-- ==== Proof.lean ====
/-
# The proof of `Cert.Claim`

The three frames, `preserves` (no operation is rewritten) and the value: every device ends with its rows of the product.
The run of the sixteen devices is `Cert.Scatter.run_main` (Proof/Launch.lean), for any float values; what it leaves over
the extended reals is `Cert.Scatter.res_block` (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed kernel and its idealisation have one body table. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => rfl
theorem defs_eq : Cert.Kernel.defs (F := Bits) = Cert.KernelIdeal.defs (F := Bits) := by
  unfold Cert.Kernel.defs Cert.KernelIdeal.defs
  rw [bodies_eq]
  rfl

/-- So the run for any float values is the kernel's, at the word floats, -/
theorem frame_kernel : Cert.quiescent_Kernel := fun m ρ _ => by
  rw [defs_eq]
  exact Cert.Scatter.frame_any (F := Bits) m ρ
/-- and the idealisation's, at the extended reals. -/
theorem frame_ideal : Cert.quiescent_KernelIdeal := fun m ρ _ => Cert.Scatter.frame_any (F := Ideal) m ρ
/-- The reference has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device ends with its rows of the product of the whole operands. -/
theorem value : Cert.algebraic_KernelIdeal_ReferenceIdeal := by
  intro m ρ m' ρ' _ hagree
  refine ⟨Cert.Scatter.product (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs (onTc (τ := Cert.KernelIdeal.τ) (Cert.KernelIdeal.main (F := Ideal))) (Cert.Scatter.s₀ m ρ)).mono
      (fun _ h c => ⟨((h.1 c (2 : Fin 3)).trans (Cert.Scatter.finalA_out m ρ c)).trans ?_,
        (h.1 c (0 : Fin 3)).trans (Cert.Scatter.finalA_left m ρ c), (h.1 c (1 : Fin 3)).trans (Cert.Scatter.finalA_right m ρ c)⟩)
      (Cert.Scatter.run_main (F := Ideal) m ρ)
    exact Cert.Scatter.res_block _ _ _ _ (fun d => (Cert.Scatter.colsA_eq m d).trans (hagree d).1)
      (fun d => (Cert.Scatter.rowsB_eq m d).trans (hagree d).2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
